-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_qkv.lean ====
abbrev S8192x20480 : Shape := ⟨2, ![8192, 20480]⟩
abbrev S8192x8 : Shape := ⟨2, ![8192, 8]⟩
abbrev S2x4 : Shape := ⟨2, ![2, 4]⟩
abbrev S2048 : Shape := ⟨1, ![2048]⟩
abbrev S1x4096x11008 : Shape := ⟨3, ![1, 4096, 11008]⟩
abbrev S8192x4096 : Shape := ⟨2, ![8192, 4096]⟩
abbrev S_ : Shape := ⟨0, ![]⟩

class Facts : Prop where
  slices_S8192x20480_S8192x4096_0_0 : S8192x20480.Slices ![0, 0] S8192x4096
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x20480 .bf16) (main_arg1 : FVec F S8192x8 .f32) (main_arg2 : FVec F S2x4 .f32) (main_arg3 : FVec F S2048 .f32) (main_arg4 : FVec F S1x4096x11008 .f32) : IVec S_ 1 :=
  let main_v0 : FVec F S8192x4096 .bf16 := (extractStridedSlice S8192x4096 ![0, 0] · slices_S8192x20480_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  main_v5
-- ==== Kernel.lean ====
abbrev S8192x20480 : Shape := ⟨2, ![8192, 20480]⟩
abbrev S8192x8 : Shape := ⟨2, ![8192, 8]⟩
abbrev S2x4 : Shape := ⟨2, ![2, 4]⟩
abbrev S2048 : Shape := ⟨1, ![2048]⟩
abbrev S1x4096x11008 : Shape := ⟨3, ![1, 4096, 11008]⟩
abbrev S2x4096x20480 : Shape := ⟨3, ![2, 4096, 20480]⟩
abbrev S2x4096x8 : Shape := ⟨3, ![2, 4096, 8]⟩
abbrev S2x8x4096 : Shape := ⟨3, ![2, 8, 4096]⟩
abbrev S8x1 : Shape := ⟨2, ![8, 1]⟩
abbrev S1x2048 : Shape := ⟨2, ![1, 2048]⟩
abbrev S2x4096x2048 : Shape := ⟨3, ![2, 4096, 2048]⟩
abbrev S4096x11008 : Shape := ⟨2, ![4096, 11008]⟩
abbrev S1x256x1024 : Shape := ⟨3, ![1, 256, 1024]⟩
abbrev S1x256x2048 : Shape := ⟨3, ![1, 256, 2048]⟩
abbrev S1x8x256 : Shape := ⟨3, ![1, 8, 256]⟩
abbrev S1x128x11008 : Shape := ⟨3, ![1, 128, 11008]⟩
abbrev S128x11008 : Shape := ⟨2, ![128, 11008]⟩
abbrev S4x256x512 : Shape := ⟨3, ![4, 256, 512]⟩
abbrev S4x1x256 : Shape := ⟨3, ![4, 1, 256]⟩
abbrev S4x1x128 : Shape := ⟨3, ![4, 1, 128]⟩
abbrev S8x256 : Shape := ⟨2, ![8, 256]⟩
abbrev S1x256 : Shape := ⟨2, ![1, 256]⟩
abbrev S1x1x128 : Shape := ⟨3, ![1, 1, 128]⟩
abbrev S1x128 : Shape := ⟨2, ![1, 128]⟩
abbrev S1x1 : Shape := ⟨2, ![1, 1]⟩
abbrev S256x256 : Shape := ⟨2, ![256, 256]⟩
abbrev S256x1 : Shape := ⟨2, ![256, 1]⟩
abbrev S256 : Shape := ⟨1, ![256]⟩
abbrev S1 : Shape := ⟨1, ![1]⟩
abbrev S1x256x512 : Shape := ⟨3, ![1, 256, 512]⟩
abbrev S256x512 : Shape := ⟨2, ![256, 512]⟩
abbrev S1x1x256 : Shape := ⟨3, ![1, 1, 256]⟩
abbrev S1x256x256 : Shape := ⟨3, ![1, 256, 256]⟩
abbrev S1x512 : Shape := ⟨2, ![1, 512]⟩

abbrev nBuf : Space → Nat
  | .hbm => 12
  | .vmem => 21
  | .smem => 0
  | _ => 0

abbrev bufTy : (tb : Table) → Fin (tcTables nBuf tb) → BufTy
  | .hbm, ⟨0, _⟩ => ⟨S8192x20480, .bf16⟩
  | .hbm, ⟨1, _⟩ => ⟨S8192x8, .f32⟩
  | .hbm, ⟨2, _⟩ => ⟨S2x4, .f32⟩
  | .hbm, ⟨3, _⟩ => ⟨S2048, .f32⟩
  | .hbm, ⟨4, _⟩ => ⟨S1x4096x11008, .f32⟩
  | .hbm, ⟨5, _⟩ => ⟨S2x4096x20480, .bf16⟩
  | .hbm, ⟨6, _⟩ => ⟨S2x4096x8, .f32⟩
  | .hbm, ⟨7, _⟩ => ⟨S2x8x4096, .f32⟩
  | .hbm, ⟨8, _⟩ => ⟨S8x1, .f32⟩
  | .hbm, ⟨9, _⟩ => ⟨S1x2048, .f32⟩
  | .hbm, ⟨10, _⟩ => ⟨S2x4096x2048, .bf16⟩
  | .hbm, ⟨11, _⟩ => ⟨S4096x11008, .bf16⟩
  | .local _ .vmem, ⟨0, _⟩ => ⟨S8x1, .f32⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x8x256, .f32⟩
  | .local _ .vmem, ⟨10, _⟩ => ⟨S1x8x256, .f32⟩
  | .local _ .vmem, ⟨11, _⟩ => ⟨S1x2048, .f32⟩
  | .local _ .vmem, ⟨12, _⟩ => ⟨S1x128x11008, .f32⟩
  | .local _ .vmem, ⟨13, _⟩ => ⟨S1x128x11008, .f32⟩
  | .local _ .vmem, ⟨14, _⟩ => ⟨S1x256x2048, .bf16⟩
  | .local _ .vmem, ⟨15, _⟩ => ⟨S1x256x2048, .bf16⟩
  | .local _ .vmem, ⟨16, _⟩ => ⟨S128x11008, .bf16⟩
  | .local _ .vmem, ⟨17, _⟩ => ⟨S128x11008, .bf16⟩
  | .local _ .vmem, ⟨18, _⟩ => ⟨S4x256x512, .f32⟩
  | .local _ .vmem, ⟨19, _⟩ => ⟨S4x1x256, .f32⟩
  | .local _ .vmem, ⟨20, _⟩ => ⟨S4x1x128, .f32⟩
  | _, _ => ⟨S8192x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 1 → Memref sig .tc .vmem S8x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x11008 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x11008 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x20480 : Shape := ⟨2, ![8192, 20480]⟩
abbrev S8192x8 : Shape := ⟨2, ![8192, 8]⟩
abbrev S2x4 : Shape := ⟨2, ![2, 4]⟩
abbrev S2048 : Shape := ⟨1, ![2048]⟩
abbrev S1x4096x11008 : Shape := ⟨3, ![1, 4096, 11008]⟩
abbrev S8192x1024 : Shape := ⟨2, ![8192, 1024]⟩
abbrev S2x4096x4x256 : Shape := ⟨4, ![2, 4096, 4, 256]⟩
abbrev S8192x2048 : Shape := ⟨2, ![8192, 2048]⟩
abbrev S2x4096x4x512 : Shape := ⟨4, ![2, 4096, 4, 512]⟩
abbrev S8192x4 : Shape := ⟨2, ![8192, 4]⟩
abbrev S2x4096x4 : Shape := ⟨3, ![2, 4096, 4]⟩
abbrev S1x4 : Shape := ⟨2, ![1, 4]⟩
abbrev S4 : Shape := ⟨1, ![4]⟩
abbrev S1x1x4 : Shape := ⟨3, ![1, 1, 4]⟩
abbrev S_ : Shape := ⟨0, ![]⟩
abbrev S64x64 : Shape := ⟨2, ![64, 64]⟩
abbrev S2x4x256x512 : Shape := ⟨4, ![2, 4, 256, 512]⟩
abbrev S2x4x256 : Shape := ⟨3, ![2, 4, 256]⟩
abbrev S2x64x64x4x256 : Shape := ⟨5, ![2, 64, 64, 4, 256]⟩
abbrev S64x2x4x64x256 : Shape := ⟨5, ![64, 2, 4, 64, 256]⟩
abbrev S2x64x64x4x512 : Shape := ⟨5, ![2, 64, 64, 4, 512]⟩
abbrev S64x2x4x64x512 : Shape := ⟨5, ![64, 2, 4, 64, 512]⟩
abbrev S2x64x64x4 : Shape := ⟨4, ![2, 64, 64, 4]⟩
abbrev S64x2x4x64 : Shape := ⟨4, ![64, 2, 4, 64]⟩
abbrev S1x2x4x64x256 : Shape := ⟨5, ![1, 2, 4, 64, 256]⟩
abbrev S2x4x64x256 : Shape := ⟨4, ![2, 4, 64, 256]⟩
abbrev S1x2x4x64x512 : Shape := ⟨5, ![1, 2, 4, 64, 512]⟩
abbrev S2x4x64x512 : Shape := ⟨4, ![2, 4, 64, 512]⟩
abbrev S1x2x4x64 : Shape := ⟨4, ![1, 2, 4, 64]⟩
abbrev S2x4x64 : Shape := ⟨3, ![2, 4, 64]⟩
abbrev S2x4x64x1 : Shape := ⟨4, ![2, 4, 64, 1]⟩
abbrev S2x4x1x64 : Shape := ⟨4, ![2, 4, 1, 64]⟩
abbrev S2x4x64x64 : Shape := ⟨4, ![2, 4, 64, 64]⟩
abbrev S2x4x1 : Shape := ⟨3, ![2, 4, 1]⟩
abbrev S2x4x1x1 : Shape := ⟨4, ![2, 4, 1, 1]⟩
abbrev S2x4096x2048 : Shape := ⟨3, ![2, 4096, 2048]⟩
abbrev S4x512 : Shape := ⟨2, ![4, 512]⟩
abbrev S2x4096x4x1 : Shape := ⟨4, ![2, 4096, 4, 1]⟩
abbrev S1x1x4x512 : Shape := ⟨4, ![1, 1, 4, 512]⟩
abbrev S4096x11008 : Shape := ⟨2, ![4096, 11008]⟩

abbrev nBuf : Space → Nat
  | .hbm => 254
  | .vmem => 0
  | .smem => 0
  | _ => 0

abbrev hbmTy0_0 (i : Nat) : BufTy := match i % 128 with
  | 0 => ⟨S8192x20480, .bf16⟩
  | 1 => ⟨S8192x8, .f32⟩
  | 2 => ⟨S2x4, .f32⟩
  | 3 => ⟨S2048, .f32⟩
  | 4 => ⟨S1x4096x11008, .f32⟩
  | 5 => ⟨S8192x1024, .bf16⟩
  | 6 => ⟨S8192x1024, .f32⟩
  | 7 => ⟨S2x4096x4x256, .f32⟩
  | 8 => ⟨S8192x1024, .bf16⟩
  | 9 => ⟨S8192x1024, .f32⟩
  | 10 => ⟨S2x4096x4x256, .f32⟩
  | 11 => ⟨S8192x2048, .bf16⟩
  | 12 => ⟨S8192x2048, .f32⟩
  | 13 => ⟨S2x4096x4x512, .f32⟩
  | 14 => ⟨S8192x4, .f32⟩
  | 15 => ⟨S2x4096x4, .f32⟩
  | 16 => ⟨S8192x4, .f32⟩
  | 17 => ⟨S2x4096x4, .f32⟩
  | 18 => ⟨S1x4, .f32⟩
  | 19 => ⟨S4, .f32⟩
  | 20 => ⟨S1x1x4, .f32⟩
  | 21 => ⟨S2x4096x4, .f32⟩
  | 22 => ⟨S2x4096x4, .f32⟩
  | 23 => ⟨S_, .f32⟩
  | 24 => ⟨S2x4096x4, .f32⟩
  | 25 => ⟨S2x4096x4, .f32⟩
  | 26 => ⟨S2x4096x4, .f32⟩
  | 27 => ⟨S_, .f32⟩
  | 28 => ⟨S2x4096x4, .f32⟩
  | 29 => ⟨S2x4096x4, .f32⟩
  | 30 => ⟨S1x4, .f32⟩
  | 31 => ⟨S4, .f32⟩
  | 32 => ⟨S1x1x4, .f32⟩
  | 33 => ⟨S2x4096x4, .f32⟩
  | 34 => ⟨S2x4096x4, .f32⟩
  | 35 => ⟨S_, .f32⟩
  | 36 => ⟨S2x4096x4, .f32⟩
  | 37 => ⟨S2x4096x4, .f32⟩
  | 38 => ⟨S2x4096x4, .f32⟩
  | 39 => ⟨S_, .f32⟩
  | 40 => ⟨S2x4096x4, .f32⟩
  | 41 => ⟨S2x4096x4, .f32⟩
  | 42 => ⟨S_, .f32⟩
  | 43 => ⟨S2x4096x4x256, .f32⟩
  | 44 => ⟨S2x4096x4x256, .f32⟩
  | 45 => ⟨S2x4096x4, .f32⟩
  | 46 => ⟨S_, .f32⟩
  | 47 => ⟨S2x4096x4, .f32⟩
  | 48 => ⟨S2x4096x4, .f32⟩
  | 49 => ⟨S2x4096x4, .f32⟩
  | 50 => ⟨S2x4096x4, .f32⟩
  | 51 => ⟨S2x4096x4, .i1⟩
  | 52 => ⟨S2x4096x4, .f32⟩
  | 53 => ⟨S2x4096x4, .f32⟩
  | 54 => ⟨S2x4096x4, .f32⟩
  | 55 => ⟨S2x4096x4, .f32⟩
  | 56 => ⟨S2x4096x4, .f32⟩
  | 57 => ⟨S2x4096x4, .f32⟩
  | 58 => ⟨S2x4096x4, .f32⟩
  | 59 => ⟨S2x4096x4, .f32⟩
  | 60 => ⟨S2x4096x4, .f32⟩
  | 61 => ⟨S_, .i1⟩
  | 62 => ⟨S64x64, .i1⟩
  | 63 => ⟨S64x64, .i32⟩
  | 64 => ⟨S_, .i32⟩
  | 65 => ⟨S64x64, .i32⟩
  | 66 => ⟨S64x64, .i32⟩
  | 67 => ⟨S64x64, .i32⟩
  | 68 => ⟨S64x64, .i1⟩
  | 69 => ⟨S_, .i1⟩
  | 70 => ⟨S64x64, .i1⟩
  | 71 => ⟨S64x64, .i1⟩
  | 72 => ⟨S_, .f32⟩
  | 73 => ⟨S2x4x256x512, .f32⟩
  | 74 => ⟨S_, .f32⟩
  | 75 => ⟨S2x4x256, .f32⟩
  | 76 => ⟨S_, .f32⟩
  | 77 => ⟨S2x4, .f32⟩
  | 78 => ⟨S2x64x64x4x256, .f32⟩
  | 79 => ⟨S64x2x4x64x256, .f32⟩
  | 80 => ⟨S2x64x64x4x256, .f32⟩
  | 81 => ⟨S64x2x4x64x256, .f32⟩
  | 82 => ⟨S2x64x64x4x512, .f32⟩
  | 83 => ⟨S64x2x4x64x512, .f32⟩
  | 84 => ⟨S2x64x64x4, .f32⟩
  | 85 => ⟨S64x2x4x64, .f32⟩
  | 86 => ⟨S2x64x64x4, .f32⟩
  | 87 => ⟨S64x2x4x64, .f32⟩
  | 88 => ⟨S_, .f32⟩
  | 89 => ⟨S64x2x4x64x512, .f32⟩
  | 90 => ⟨S_, .i32⟩
  | 91 => ⟨S64x2x4x64x256, .f32⟩
  | 92 => ⟨S64x2x4x64x256, .f32⟩
  | 93 => ⟨S64x2x4x64x512, .f32⟩
  | 94 => ⟨S64x2x4x64, .f32⟩
  | 95 => ⟨S64x2x4x64, .f32⟩
  | 96 => ⟨S64x64, .i1⟩
  | 97 => ⟨S_, .i32⟩
  | 98 => ⟨S2x4x256x512, .f32⟩
  | 99 => ⟨S2x4x256, .f32⟩
  | 100 => ⟨S2x4, .f32⟩
  | 101 => ⟨S64x2x4x64x512, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S1x2x4x64x256, .f32⟩
  | 109 => ⟨S2x4x64x256, .f32⟩
  | 110 => ⟨S_, .i32⟩
  | 111 => ⟨S_, .i32⟩
  | 112 => ⟨S_, .i32⟩
  | 113 => ⟨S_, .i32⟩
  | 114 => ⟨S1x2x4x64x256, .f32⟩
  | 115 => ⟨S2x4x64x256, .f32⟩
  | 116 => ⟨S_, .i32⟩
  | 117 => ⟨S_, .i32⟩
  | 118 => ⟨S_, .i32⟩
  | 119 => ⟨S_, .i32⟩
  | 120 => ⟨S1x2x4x64x512, .f32⟩
  | 121 => ⟨S2x4x64x512, .f32⟩
  | 122 => ⟨S_, .i32⟩
  | 123 => ⟨S_, .i32⟩
  | 124 => ⟨S_, .i32⟩
  | 125 => ⟨S1x2x4x64, .f32⟩
  | 126 => ⟨S2x4x64, .f32⟩
  | 127 => ⟨S_, .i32⟩
  | _ => ⟨S8192x20480, .bf16⟩

abbrev hbmTy0_1 (i : Nat) : BufTy := match i % 128 with
  | 0 => ⟨S_, .i32⟩
  | 1 => ⟨S_, .i32⟩
  | 2 => ⟨S1x2x4x64, .f32⟩
  | 3 => ⟨S2x4x64, .f32⟩
  | 4 => ⟨S_, .f32⟩
  | 5 => ⟨S_, .f32⟩
  | 6 => ⟨S2x4x64, .f32⟩
  | 7 => ⟨S2x4x64x1, .f32⟩
  | 8 => ⟨S2x4x1x64, .f32⟩
  | 9 => ⟨S2x4x64x64, .f32⟩
  | 10 => ⟨S2x4x64x64, .f32⟩
  | 11 => ⟨S2x4x64x64, .f32⟩
  | 12 => ⟨S2x4x1x64, .f32⟩
  | 13 => ⟨S2x4x64x64, .f32⟩
  | 14 => ⟨S2x4x64x64, .f32⟩
  | 15 => ⟨S_, .f32⟩
  | 16 => ⟨S_, .f32⟩
  | 17 => ⟨S2x4x64x64, .i1⟩
  | 18 => ⟨S2x4x64x64, .f32⟩
  | 19 => ⟨S2x4x64x64, .f32⟩
  | 20 => ⟨S2x4x1, .f32⟩
  | 21 => ⟨S2x4x64, .f32⟩
  | 22 => ⟨S2x4x64, .f32⟩
  | 23 => ⟨S_, .f32⟩
  | 24 => ⟨S2x4x64, .f32⟩
  | 25 => ⟨S2x4x64, .f32⟩
  | 26 => ⟨S2x4x64x1, .f32⟩
  | 27 => ⟨S2x4x64x64, .f32⟩
  | 28 => ⟨S2x4x64x64, .f32⟩
  | 29 => ⟨S2x4x64x64, .f32⟩
  | 30 => ⟨S2x4x64, .f32⟩
  | 31 => ⟨S2x4x64, .f32⟩
  | 32 => ⟨S2x4x64x64, .f32⟩
  | 33 => ⟨S2x4x64x64, .f32⟩
  | 34 => ⟨S2x4x64x1, .f32⟩
  | 35 => ⟨S2x4x64x512, .f32⟩
  | 36 => ⟨S2x4x64x512, .f32⟩
  | 37 => ⟨S2x4x64x512, .f32⟩
  | 38 => ⟨S2x4x64x512, .f32⟩
  | 39 => ⟨S2x4x64x512, .f32⟩
  | 40 => ⟨S2x4x64, .f32⟩
  | 41 => ⟨S2x4x64, .f32⟩
  | 42 => ⟨S_, .f32⟩
  | 43 => ⟨S2x4x64, .f32⟩
  | 44 => ⟨S2x4x64, .f32⟩
  | 45 => ⟨S2x4x64, .f32⟩
  | 46 => ⟨S2x4x64, .f32⟩
  | 47 => ⟨S2x4x64, .f32⟩
  | 48 => ⟨S2x4x64, .f32⟩
  | 49 => ⟨S2x4x64x1, .f32⟩
  | 50 => ⟨S2x4x64x512, .f32⟩
  | 51 => ⟨S2x4x64x512, .f32⟩
  | 52 => ⟨S2x4x1, .f32⟩
  | 53 => ⟨S2x4, .f32⟩
  | 54 => ⟨S2x4x1, .f32⟩
  | 55 => ⟨S2x4x64, .f32⟩
  | 56 => ⟨S2x4x64, .f32⟩
  | 57 => ⟨S2x4x64, .f32⟩
  | 58 => ⟨S2x4, .f32⟩
  | 59 => ⟨S_, .f32⟩
  | 60 => ⟨S2x4, .f32⟩
  | 61 => ⟨S2x4, .f32⟩
  | 62 => ⟨S2x4, .f32⟩
  | 63 => ⟨S2x4, .f32⟩
  | 64 => ⟨S2x4, .f32⟩
  | 65 => ⟨S2x4x1, .f32⟩
  | 66 => ⟨S2x4x64, .f32⟩
  | 67 => ⟨S2x4x64, .f32⟩
  | 68 => ⟨S2x4x64, .f32⟩
  | 69 => ⟨S2x4x64x1, .f32⟩
  | 70 => ⟨S2x4x64x256, .f32⟩
  | 71 => ⟨S2x4x64x256, .f32⟩
  | 72 => ⟨S2x4x1x1, .f32⟩
  | 73 => ⟨S2x4x256x512, .f32⟩
  | 74 => ⟨S2x4x256x512, .f32⟩
  | 75 => ⟨S2x4x256x512, .f32⟩
  | 76 => ⟨S2x4x256x512, .f32⟩
  | 77 => ⟨S2x4x1, .f32⟩
  | 78 => ⟨S2x4x256, .f32⟩
  | 79 => ⟨S2x4x256, .f32⟩
  | 80 => ⟨S_, .f32⟩
  | 81 => ⟨S2x4x256, .f32⟩
  | 82 => ⟨S2x4x256, .f32⟩
  | 83 => ⟨S1x2x4x64x512, .f32⟩
  | 84 => ⟨S_, .i32⟩
  | 85 => ⟨S_, .i32⟩
  | 86 => ⟨S_, .i32⟩
  | 87 => ⟨S_, .i32⟩
  | 88 => ⟨S64x2x4x64x512, .f32⟩
  | 89 => ⟨S_, .i32⟩
  | 90 => ⟨S_, .i32⟩
  | 91 => ⟨S2x64x64x4x512, .f32⟩
  | 92 => ⟨S2x4096x4x512, .f32⟩
  | 93 => ⟨S8192x2048, .bf16⟩
  | 94 => ⟨S8192x2048, .f32⟩
  | 95 => ⟨S2x4096x2048, .f32⟩
  | 96 => ⟨S4x512, .f32⟩
  | 97 => ⟨S2x4096x4x512, .f32⟩
  | 98 => ⟨S_, .f32⟩
  | 99 => ⟨S2x4096x4, .f32⟩
  | 100 => ⟨S2x4096x4x1, .f32⟩
  | 101 => ⟨S_, .f32⟩
  | 102 => ⟨S2x4096x4x1, .f32⟩
  | 103 => ⟨S2x4096x4x1, .f32⟩
  | 104 => ⟨S_, .f32⟩
  | 105 => ⟨S2x4096x4x1, .f32⟩
  | 106 => ⟨S2x4096x4x1, .f32⟩
  | 107 => ⟨S2x4096x4x1, .f32⟩
  | 108 => ⟨S2x4096x4x512, .f32⟩
  | 109 => ⟨S2x4096x4x512, .f32⟩
  | 110 => ⟨S1x1x4x512, .f32⟩
  | 111 => ⟨S2x4096x4x512, .f32⟩
  | 112 => ⟨S2x4096x4x512, .f32⟩
  | 113 => ⟨S2x4096x2048, .f32⟩
  | 114 => ⟨S2x4096x2048, .f32⟩
  | 115 => ⟨S_, .f32⟩
  | 116 => ⟨S2x4096x2048, .f32⟩
  | 117 => ⟨S2x4096x2048, .f32⟩
  | 118 => ⟨S_, .f32⟩
  | 119 => ⟨S2x4096x2048, .f32⟩
  | 120 => ⟨S2x4096x2048, .f32⟩
  | 121 => ⟨S2x4096x2048, .f32⟩
  | 122 => ⟨S2x4096x2048, .f32⟩
  | 123 => ⟨S2x4096x2048, .bf16⟩
  | 124 => ⟨S4096x11008, .f32⟩
  | 125 => ⟨S4096x11008, .bf16⟩
  | _ => ⟨S8192x20480, .bf16⟩

abbrev hbmTy (i : Nat) : BufTy := match i / 128 with
  | 0 => hbmTy0_0 i
  | 1 => hbmTy0_1 i
  | _ => ⟨S8192x20480, .bf16⟩

abbrev bufTy : (tb : Table) → Fin (tcTables nBuf tb) → BufTy
  | .hbm, ⟨i, _⟩ => hbmTy i
  | _, _ => ⟨S8192x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1 : Ref sig .tc := ⟨.hbm, 59, rfl⟩
abbrev main_v35 : Ref sig .tc := ⟨.hbm, 60, rfl⟩
abbrev main_c : Ref sig .tc := ⟨.hbm, 61, rfl⟩
abbrev main_v36 : Ref sig .tc := ⟨.hbm, 62, rfl⟩
abbrev main_call1_v0 : Ref sig .tc := ⟨.hbm, 63, rfl⟩
abbrev main_call1_c : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_c_0 : Ref sig .tc := ⟨.hbm, 69, rfl⟩
abbrev main_call1_v5 : Ref sig .tc := ⟨.hbm, 70, rfl⟩
abbrev main_v37 : Ref sig .tc := ⟨.hbm, 71, rfl⟩
abbrev main_cst_4 : Ref sig .tc := ⟨.hbm, 72, rfl⟩
abbrev main_v38 : Ref sig .tc := ⟨.hbm, 73, rfl⟩
abbrev main_cst_5 : Ref sig .tc := ⟨.hbm, 74, rfl⟩
abbrev main_v39 : Ref sig .tc := ⟨.hbm, 75, rfl⟩
abbrev main_cst_6 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_7 : Ref sig .tc := ⟨.hbm, 88, rfl⟩
abbrev main_v51 : Ref sig .tc := ⟨.hbm, 89, rfl⟩
abbrev main_c_8 : Ref sig .tc := ⟨.hbm, 90, rfl⟩
abbrev main_v52_0 : Ref sig .tc := ⟨.hbm, 91, rfl⟩
abbrev main_v52_1 : Ref sig .tc := ⟨.hbm, 92, rfl⟩
abbrev main_v52_2 : Ref sig .tc := ⟨.hbm, 93, rfl⟩
abbrev main_v52_3 : Ref sig .tc := ⟨.hbm, 94, rfl⟩
abbrev main_v52_4 : Ref sig .tc := ⟨.hbm, 95, rfl⟩
abbrev main_v52_5 : Ref sig .tc := ⟨.hbm, 96, rfl⟩
abbrev main_v52_6 : Ref sig .tc := ⟨.hbm, 97, rfl⟩
abbrev main_v52_7 : Ref sig .tc := ⟨.hbm, 98, rfl⟩
abbrev main_v52_8 : Ref sig .tc := ⟨.hbm, 99, rfl⟩
abbrev main_v52_9 : Ref sig .tc := ⟨.hbm, 100, rfl⟩
abbrev main_v52_10 : Ref sig .tc := ⟨.hbm, 101, rfl⟩
abbrev main_while0c_c_24 : Ref sig .tc := ⟨.hbm, 102, rfl⟩
abbrev main_while0c_v83 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_c_1 : Ref sig .tc := ⟨.hbm, 106, rfl⟩
abbrev main_while0b_call2_c_2 : Ref sig .tc := ⟨.hbm, 107, rfl⟩
abbrev main_while0b_call2_v0 : Ref sig .tc := ⟨.hbm, 108, rfl⟩
abbrev main_while0b_v83 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_c_1 : Ref sig .tc := ⟨.hbm, 112, rfl⟩
abbrev main_while0b_call3_c_2 : Ref sig .tc := ⟨.hbm, 113, rfl⟩
abbrev main_while0b_call3_v0 : Ref sig .tc := ⟨.hbm, 114, rfl⟩
abbrev main_while0b_v84 : Ref sig .tc := ⟨.hbm, 115, rfl⟩
abbrev main_while0b_call4_c : Ref sig .tc := ⟨.hbm, 116, rfl⟩
abbrev main_while0b_call4_c_0 : Ref sig .tc := ⟨.hbm, 117, rfl⟩
abbrev main_while0b_call4_c_1 : Ref sig .tc := ⟨.hbm, 118, rfl⟩
abbrev main_while0b_call4_c_2 : Ref sig .tc := ⟨.hbm, 119, rfl⟩
abbrev main_while0b_call4_v0 : Ref sig .tc := ⟨.hbm, 120, rfl⟩
abbrev main_while0b_v85 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_c_1 : Ref sig .tc := ⟨.hbm, 124, rfl⟩
abbrev main_while0b_call5_v0 : Ref sig .tc := ⟨.hbm, 125, rfl⟩
abbrev main_while0b_v86 : Ref sig .tc := ⟨.hbm, 126, rfl⟩
abbrev main_while0b_call6_c : Ref sig .tc := ⟨.hbm, 127, rfl⟩
abbrev main_while0b_call6_c_0 : Ref sig .tc := ⟨.hbm, 128, rfl⟩
abbrev main_while0b_call6_c_1 : Ref sig .tc := ⟨.hbm, 129, rfl⟩
abbrev main_while0b_call6_v0 : Ref sig .tc := ⟨.hbm, 130, rfl⟩
abbrev main_while0b_v87 : Ref sig .tc := ⟨.hbm, 131, rfl⟩
abbrev main_while0b_call7_call0_cst : Ref sig .tc := ⟨.hbm, 132, rfl⟩
abbrev main_while0b_call7_call0_v0 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_cst_24 : Ref sig .tc := ⟨.hbm, 143, rfl⟩
abbrev main_while0b_call8_v0 : Ref sig .tc := ⟨.hbm, 144, rfl⟩
abbrev main_while0b_call8_v1 : Ref sig .tc := ⟨.hbm, 145, rfl⟩
abbrev main_while0b_call8_v2 : Ref sig .tc := ⟨.hbm, 146, rfl⟩
abbrev main_while0b_v97 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_cst_25 : Ref sig .tc := ⟨.hbm, 151, rfl⟩
abbrev main_while0b_v101 : Ref sig .tc := ⟨.hbm, 152, rfl⟩
abbrev main_while0b_v102 : Ref sig .tc := ⟨.hbm, 153, rfl⟩
abbrev main_while0b_v103 : Ref sig .tc := ⟨.hbm, 154, rfl⟩
abbrev main_while0b_v104 : Ref sig .tc := ⟨.hbm, 155, rfl⟩
abbrev main_while0b_v105 : Ref sig .tc := ⟨.hbm, 156, rfl⟩
abbrev main_while0b_v106 : Ref sig .tc := ⟨.hbm, 157, rfl⟩
abbrev main_while0b_v107 : Ref sig .tc := ⟨.hbm, 158, rfl⟩
abbrev main_while0b_v108 : Ref sig .tc := ⟨.hbm, 159, rfl⟩
abbrev main_while0b_v109 : Ref sig .tc := ⟨.hbm, 160, rfl⟩
abbrev main_while0b_v110 : Ref sig .tc := ⟨.hbm, 161, rfl⟩
abbrev main_while0b_v111 : Ref sig .tc := ⟨.hbm, 162, rfl⟩
abbrev main_while0b_v112 : Ref sig .tc := ⟨.hbm, 163, rfl⟩
abbrev main_while0b_v113 : Ref sig .tc := ⟨.hbm, 164, rfl⟩
abbrev main_while0b_v114 : Ref sig .tc := ⟨.hbm, 165, rfl⟩
abbrev main_while0b_v115 : Ref sig .tc := ⟨.hbm, 166, rfl⟩
abbrev main_while0b_v116 : Ref sig .tc := ⟨.hbm, 167, rfl⟩
abbrev main_while0b_v117 : Ref sig .tc := ⟨.hbm, 168, rfl⟩
abbrev main_while0b_v118 : Ref sig .tc := ⟨.hbm, 169, rfl⟩
abbrev main_while0b_cst_26 : Ref sig .tc := ⟨.hbm, 170, rfl⟩
abbrev main_while0b_v119 : Ref sig .tc := ⟨.hbm, 171, rfl⟩
abbrev main_while0b_v120 : Ref sig .tc := ⟨.hbm, 172, rfl⟩
abbrev main_while0b_v121 : Ref sig .tc := ⟨.hbm, 173, rfl⟩
abbrev main_while0b_v122 : Ref sig .tc := ⟨.hbm, 174, rfl⟩
abbrev main_while0b_v123 : Ref sig .tc := ⟨.hbm, 175, rfl⟩
abbrev main_while0b_v124 : Ref sig .tc := ⟨.hbm, 176, rfl⟩
abbrev main_while0b_v125 : Ref sig .tc := ⟨.hbm, 177, rfl⟩
abbrev main_while0b_v126 : Ref sig .tc := ⟨.hbm, 178, rfl⟩
abbrev main_while0b_v127 : Ref sig .tc := ⟨.hbm, 179, rfl⟩
abbrev main_while0b_v128 : Ref sig .tc := ⟨.hbm, 180, rfl⟩
abbrev main_while0b_v129 : Ref sig .tc := ⟨.hbm, 181, rfl⟩
abbrev main_while0b_v130 : Ref sig .tc := ⟨.hbm, 182, rfl⟩
abbrev main_while0b_v131 : Ref sig .tc := ⟨.hbm, 183, rfl⟩
abbrev main_while0b_v132 : Ref sig .tc := ⟨.hbm, 184, rfl⟩
abbrev main_while0b_v133 : Ref sig .tc := ⟨.hbm, 185, rfl⟩
abbrev main_while0b_v134 : Ref sig .tc := ⟨.hbm, 186, rfl⟩
abbrev main_while0b_cst_27 : Ref sig .tc := ⟨.hbm, 187, rfl⟩
abbrev main_while0b_v135 : Ref sig .tc := ⟨.hbm, 188, rfl⟩
abbrev main_while0b_v136 : Ref sig .tc := ⟨.hbm, 189, rfl⟩
abbrev main_while0b_v137 : Ref sig .tc := ⟨.hbm, 190, rfl⟩
abbrev main_while0b_v138 : Ref sig .tc := ⟨.hbm, 191, rfl⟩
abbrev main_while0b_v139 : Ref sig .tc := ⟨.hbm, 192, rfl⟩
abbrev main_while0b_v140 : Ref sig .tc := ⟨.hbm, 193, rfl⟩
abbrev main_while0b_v141 : Ref sig .tc := ⟨.hbm, 194, rfl⟩
abbrev main_while0b_v142 : Ref sig .tc := ⟨.hbm, 195, rfl⟩
abbrev main_while0b_v143 : Ref sig .tc := ⟨.hbm, 196, rfl⟩
abbrev main_while0b_v144 : Ref sig .tc := ⟨.hbm, 197, rfl⟩
abbrev main_while0b_v145 : Ref sig .tc := ⟨.hbm, 198, rfl⟩
abbrev main_while0b_v146 : Ref sig .tc := ⟨.hbm, 199, rfl⟩
abbrev main_while0b_v147 : Ref sig .tc := ⟨.hbm, 200, rfl⟩
abbrev main_while0b_v148 : Ref sig .tc := ⟨.hbm, 201, rfl⟩
abbrev main_while0b_v149 : Ref sig .tc := ⟨.hbm, 202, rfl⟩
abbrev main_while0b_v150 : Ref sig .tc := ⟨.hbm, 203, rfl⟩
abbrev main_while0b_v151 : Ref sig .tc := ⟨.hbm, 204, rfl⟩
abbrev main_while0b_v152 : Ref sig .tc := ⟨.hbm, 205, rfl⟩
abbrev main_while0b_v153 : Ref sig .tc := ⟨.hbm, 206, rfl⟩
abbrev main_while0b_v154 : Ref sig .tc := ⟨.hbm, 207, rfl⟩
abbrev main_while0b_cst_28 : Ref sig .tc := ⟨.hbm, 208, rfl⟩
abbrev main_while0b_v155 : Ref sig .tc := ⟨.hbm, 209, rfl⟩
abbrev main_while0b_v156 : Ref sig .tc := ⟨.hbm, 210, rfl⟩
abbrev main_while0b_call9_v0 : Ref sig .tc := ⟨.hbm, 211, rfl⟩
abbrev main_while0b_call9_c : Ref sig .tc := ⟨.hbm, 212, rfl⟩
abbrev main_while0b_call9_c_0 : Ref sig .tc := ⟨.hbm, 213, rfl⟩
abbrev main_while0b_call9_c_1 : Ref sig .tc := ⟨.hbm, 214, rfl⟩
abbrev main_while0b_call9_c_2 : Ref sig .tc := ⟨.hbm, 215, rfl⟩
abbrev main_while0b_v157 : Ref sig .tc := ⟨.hbm, 216, rfl⟩
abbrev main_while0b_c_29 : Ref sig .tc := ⟨.hbm, 217, rfl⟩
abbrev main_while0b_v158 : Ref sig .tc := ⟨.hbm, 218, rfl⟩
abbrev main_v53 : Ref sig .tc := ⟨.hbm, 219, rfl⟩
abbrev main_v54 : Ref sig .tc := ⟨.hbm, 220, rfl⟩
abbrev main_v55 : Ref sig .tc := ⟨.hbm, 221, rfl⟩
abbrev main_v56 : Ref sig .tc := ⟨.hbm, 222, rfl⟩
abbrev main_v57 : Ref sig .tc := ⟨.hbm, 223, rfl⟩
abbrev main_v58 : Ref sig .tc := ⟨.hbm, 224, rfl⟩
abbrev main_v59 : Ref sig .tc := ⟨.hbm, 225, rfl⟩
abbrev main_cst_9 : Ref sig .tc := ⟨.hbm, 226, rfl⟩
abbrev main_v60 : Ref sig .tc := ⟨.hbm, 227, rfl⟩
abbrev main_v61 : Ref sig .tc := ⟨.hbm, 228, rfl⟩
abbrev main_cst_10 : Ref sig .tc := ⟨.hbm, 229, rfl⟩
abbrev main_v62 : Ref sig .tc := ⟨.hbm, 230, rfl⟩
abbrev main_v63 : Ref sig .tc := ⟨.hbm, 231, rfl⟩
abbrev main_cst_11 : Ref sig .tc := ⟨.hbm, 232, rfl⟩
abbrev main_v64 : Ref sig .tc := ⟨.hbm, 233, rfl⟩
abbrev main_v65 : Ref sig .tc := ⟨.hbm, 234, rfl⟩
abbrev main_v66 : Ref sig .tc := ⟨.hbm, 235, rfl⟩
abbrev main_v67 : Ref sig .tc := ⟨.hbm, 236, rfl⟩
abbrev main_v68 : Ref sig .tc := ⟨.hbm, 237, rfl⟩
abbrev main_v69 : Ref sig .tc := ⟨.hbm, 238, rfl⟩
abbrev main_v70 : Ref sig .tc := ⟨.hbm, 239, rfl⟩
abbrev main_v71 : Ref sig .tc := ⟨.hbm, 240, rfl⟩
abbrev main_v72 : Ref sig .tc := ⟨.hbm, 241, rfl⟩
abbrev main_v73 : Ref sig .tc := ⟨.hbm, 242, rfl⟩
abbrev main_cst_12 : Ref sig .tc := ⟨.hbm, 243, rfl⟩
abbrev main_v74 : Ref sig .tc := ⟨.hbm, 244, rfl⟩
abbrev main_v75 : Ref sig .tc := ⟨.hbm, 245, rfl⟩
abbrev main_cst_13 : Ref sig .tc := ⟨.hbm, 246, rfl⟩
abbrev main_v76 : Ref sig .tc := ⟨.hbm, 247, rfl⟩
abbrev main_v77 : Ref sig .tc := ⟨.hbm, 248, rfl⟩
abbrev main_v78 : Ref sig .tc := ⟨.hbm, 249, rfl⟩
abbrev main_v79 : Ref sig .tc := ⟨.hbm, 250, rfl⟩
abbrev main_v80 : Ref sig .tc := ⟨.hbm, 251, rfl⟩
abbrev main_v81 : Ref sig .tc := ⟨.hbm, 252, rfl⟩
abbrev main_v82 : Ref sig .tc := ⟨.hbm, 253, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x4096 : Shape := ⟨2, ![8192, 4096]⟩
abbrev S4096x11008 : Shape := ⟨2, ![4096, 11008]⟩
abbrev S1x11008x4096 : Shape := ⟨3, ![1, 11008, 4096]⟩
abbrev S8192x11008 : Shape := ⟨2, ![8192, 11008]⟩
abbrev S11008x4096 : Shape := ⟨2, ![11008, 4096]⟩
abbrev S4096x4096 : Shape := ⟨2, ![4096, 4096]⟩
abbrev S4096x256 : Shape := ⟨2, ![4096, 256]⟩
abbrev S1x128x4096 : Shape := ⟨3, ![1, 128, 4096]⟩
abbrev S128x4096 : Shape := ⟨2, ![128, 4096]⟩
abbrev S256x4096 : Shape := ⟨2, ![256, 4096]⟩
abbrev S256x256 : Shape := ⟨2, ![256, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .bf16⟩
  | .hbm, ⟨2, _⟩ => ⟨S4096x11008, .bf16⟩
  | .hbm, ⟨3, _⟩ => ⟨S1x11008x4096, .f32⟩
  | .hbm, ⟨4, _⟩ => ⟨S8192x11008, .bf16⟩
  | .hbm, ⟨5, _⟩ => ⟨S11008x4096, .bf16⟩
  | .local _ .vmem, ⟨0, _⟩ => ⟨S4096x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S1x128x4096, .f32⟩
  | .local _ .vmem, ⟨6, _⟩ => ⟨S1x128x4096, .f32⟩
  | .local _ .vmem, ⟨7, _⟩ => ⟨S4096x256, .bf16⟩
  | .local _ .vmem, ⟨8, _⟩ => ⟨S4096x256, .bf16⟩
  | .local _ .vmem, ⟨9, _⟩ => ⟨S128x4096, .bf16⟩
  | .local _ .vmem, ⟨10, _⟩ => ⟨S128x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![v2.toNat, c0_i32.toNat]

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x4096 : Shape := ⟨2, ![8192, 4096]⟩
abbrev S4096x11008 : Shape := ⟨2, ![4096, 11008]⟩
abbrev S1x11008x4096 : Shape := ⟨3, ![1, 11008, 4096]⟩
abbrev S8192x11008 : Shape := ⟨2, ![8192, 11008]⟩
abbrev S_ : Shape := ⟨0, ![]⟩
abbrev S11008x4096 : Shape := ⟨2, ![11008, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .bf16⟩
  | .hbm, ⟨2, _⟩ => ⟨S4096x11008, .bf16⟩
  | .hbm, ⟨3, _⟩ => ⟨S1x11008x4096, .f32⟩
  | .hbm, ⟨4, _⟩ => ⟨S8192x4096, .f32⟩
  | .hbm, ⟨5, _⟩ => ⟨S4096x11008, .f32⟩
  | .hbm, ⟨6, _⟩ => ⟨S8192x11008, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S4096x11008, .f32⟩
  | .hbm, ⟨17, _⟩ => ⟨S8192x11008, .f32⟩
  | .hbm, ⟨18, _⟩ => ⟨S8192x11008, .f32⟩
  | .hbm, ⟨19, _⟩ => ⟨S8192x11008, .bf16⟩
  | .hbm, ⟨20, _⟩ => ⟨S11008x4096, .f32⟩
  | .hbm, ⟨21, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Kernel3.lean ====
abbrev S8192x11008 : Shape := ⟨2, ![8192, 11008]⟩
abbrev S11008x4096 : Shape := ⟨2, ![11008, 4096]⟩
abbrev S8192x4096 : Shape := ⟨2, ![8192, 4096]⟩
abbrev S1024x5504 : Shape := ⟨2, ![1024, 5504]⟩
abbrev S5504x1024 : Shape := ⟨2, ![5504, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .bf16⟩
  | .local _ .vmem, ⟨0, _⟩ => ⟨S1024x5504, .bf16⟩
  | .local _ .vmem, ⟨1, _⟩ => ⟨S1024x5504, .bf16⟩
  | .local _ .vmem, ⟨2, _⟩ => ⟨S5504x1024, .bf16⟩
  | .local _ .vmem, ⟨3, _⟩ => ⟨S5504x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5504x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x11008, .f32⟩
  | .hbm, ⟨3, _⟩ => ⟨S11008x4096, .f32⟩
  | .hbm, ⟨4, _⟩ => ⟨S8192x4096, .f32⟩
  | .hbm, ⟨5, _⟩ => ⟨S8192x4096, .bf16⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .f32⟩
  | .local _ .vmem, ⟨3, _⟩ => ⟨S512x4096, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S8192x2048 : Shape := ⟨2, ![8192, 2048]⟩
abbrev S1x2x2048x4096 : Shape := ⟨4, ![1, 2, 2048, 4096]⟩
abbrev S8192x20480 : Shape := ⟨2, ![8192, 20480]⟩
abbrev S8192x4096 : Shape := ⟨2, ![8192, 4096]⟩
abbrev S1024x2048 : Shape := ⟨2, ![1024, 2048]⟩
abbrev S1x1x2048x512 : Shape := ⟨4, ![1, 1, 2048, 512]⟩
abbrev S1024x512 : Shape := ⟨2, ![1024, 512]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 5
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2x2048x4096, .f32⟩
  | .hbm, ⟨3, _⟩ => ⟨S8192x20480, .bf16⟩
  | .hbm, ⟨4, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1x2048x512, .f32⟩
  | .local _ .vmem, ⟨5, _⟩ => ⟨S1x1x2048x512, .f32⟩
  | .local _ .vmem, ⟨6, _⟩ => ⟨S1x1x2048x512, .f32⟩
  | .local _ .vmem, ⟨7, _⟩ => ⟨S1x1x2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8192x2048 : Shape := ⟨2, ![8192, 2048]⟩
abbrev S1x2x2048x4096 : Shape := ⟨4, ![1, 2, 2048, 4096]⟩
abbrev S8192x20480 : Shape := ⟨2, ![8192, 20480]⟩
abbrev S8192x8192 : Shape := ⟨2, ![8192, 8192]⟩
abbrev S_ : Shape := ⟨0, ![]⟩
abbrev S8192x4096 : Shape := ⟨2, ![8192, 4096]⟩
abbrev S1x1x2048x4096 : Shape := ⟨4, ![1, 1, 2048, 4096]⟩
abbrev S2048x4096 : Shape := ⟨2, ![2048, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2x2048x4096, .f32⟩
  | .hbm, ⟨3, _⟩ => ⟨S8192x20480, .bf16⟩
  | .hbm, ⟨4, _⟩ => ⟨S8192x2048, .f32⟩
  | .hbm, ⟨5, _⟩ => ⟨S8192x2048, .f32⟩
  | .hbm, ⟨6, _⟩ => ⟨S8192x8192, .bf16⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x4096, .f32⟩
  | .hbm, ⟨17, _⟩ => ⟨S1x1x2048x4096, .f32⟩
  | .hbm, ⟨18, _⟩ => ⟨S2048x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S1x1x2048x4096, .f32⟩
  | .hbm, ⟨23, _⟩ => ⟨S2048x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel6.lean ====
abbrev S8192x4096 : Shape := ⟨2, ![8192, 4096]⟩
abbrev S4096x4096 : Shape := ⟨2, ![4096, 4096]⟩
abbrev S512x4096 : Shape := ⟨2, ![512, 4096]⟩
abbrev S1x4096x4096 : Shape := ⟨3, ![1, 4096, 4096]⟩
abbrev S1024x4096 : Shape := ⟨2, ![1024, 4096]⟩
abbrev S4096x1024 : Shape := ⟨2, ![4096, 1024]⟩
abbrev S256x1024 : Shape := ⟨2, ![256, 1024]⟩
abbrev S1x128x4096 : Shape := ⟨3, ![1, 128, 4096]⟩
abbrev S1024x1024 : Shape := ⟨2, ![1024, 1024]⟩
abbrev S128x4096 : Shape := ⟨2, ![128, 4096]⟩
abbrev S1024x256 : Shape := ⟨2, ![1024, 256]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S512x4096, .bf16⟩
  | .hbm, ⟨3, _⟩ => ⟨S512x4096, .bf16⟩
  | .hbm, ⟨4, _⟩ => ⟨S1x4096x4096, .f32⟩
  | .hbm, ⟨5, _⟩ => ⟨S8192x4096, .bf16⟩
  | .hbm, ⟨6, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x128x4096, .f32⟩
  | .local _ .vmem, ⟨9, _⟩ => ⟨S1x128x4096, .f32⟩
  | .local _ .vmem, ⟨10, _⟩ => ⟨S1024x1024, .bf16⟩
  | .local _ .vmem, ⟨11, _⟩ => ⟨S1024x1024, .bf16⟩
  | .local _ .vmem, ⟨12, _⟩ => ⟨S128x4096, .bf16⟩
  | .local _ .vmem, ⟨13, _⟩ => ⟨S128x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x4096 : Shape := ⟨2, ![8192, 4096]⟩
abbrev S4096x4096 : Shape := ⟨2, ![4096, 4096]⟩
abbrev S512x4096 : Shape := ⟨2, ![512, 4096]⟩
abbrev S1x4096x4096 : Shape := ⟨3, ![1, 4096, 4096]⟩
abbrev S2x4096x4x1024 : Shape := ⟨4, ![2, 4096, 4, 1024]⟩
abbrev S2x256x4x1024 : Shape := ⟨4, ![2, 256, 4, 1024]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x1024x4096 : Shape := ⟨4, ![2, 4, 1024, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S512x4096, .bf16⟩
  | .hbm, ⟨3, _⟩ => ⟨S512x4096, .bf16⟩
  | .hbm, ⟨4, _⟩ => ⟨S1x4096x4096, .f32⟩
  | .hbm, ⟨5, _⟩ => ⟨S8192x4096, .f32⟩
  | .hbm, ⟨6, _⟩ => ⟨S4096x4096, .f32⟩
  | .hbm, ⟨7, _⟩ => ⟨S8192x4096, .f32⟩
  | .hbm, ⟨8, _⟩ => ⟨S2x4096x4x1024, .f32⟩
  | .hbm, ⟨9, _⟩ => ⟨S512x4096, .f32⟩
  | .hbm, ⟨10, _⟩ => ⟨S2x256x4x1024, .f32⟩
  | .hbm, ⟨11, _⟩ => ⟨S512x4096, .f32⟩
  | .hbm, ⟨12, _⟩ => ⟨S2x256x4x1024, .f32⟩
  | .hbm, ⟨13, _⟩ => ⟨S2x4x4096x256, .f32⟩
  | .hbm, ⟨14, _⟩ => ⟨S_, .f32⟩
  | .hbm, ⟨15, _⟩ => ⟨S2x4x4096x256, .f32⟩
  | .hbm, ⟨16, _⟩ => ⟨S2x4x4096x256, .f32⟩
  | .hbm, ⟨17, _⟩ => ⟨S_, .f32⟩
  | .hbm, ⟨18, _⟩ => ⟨S2x4x4096, .f32⟩
  | .hbm, ⟨19, _⟩ => ⟨S_, .f32⟩
  | .hbm, ⟨20, _⟩ => ⟨S2x4x4096, .f32⟩
  | .hbm, ⟨21, _⟩ => ⟨S2x4x4096, .f32⟩
  | .hbm, ⟨22, _⟩ => ⟨S2x4x4096x1, .f32⟩
  | .hbm, ⟨23, _⟩ => ⟨S2x4x4096x256, .f32⟩
  | .hbm, ⟨24, _⟩ => ⟨S2x4x4096x256, .f32⟩
  | .hbm, ⟨25, _⟩ => ⟨S2x4x4096x256, .f32⟩
  | .hbm, ⟨26, _⟩ => ⟨S_, .f32⟩
  | .hbm, ⟨27, _⟩ => ⟨S2x4x4096, .f32⟩
  | .hbm, ⟨28, _⟩ => ⟨S2x4x4096x1, .f32⟩
  | .hbm, ⟨29, _⟩ => ⟨S2x4x4096x256, .f32⟩
  | .hbm, ⟨30, _⟩ => ⟨S2x4x4096x256, .f32⟩
  | .hbm, ⟨31, _⟩ => ⟨S2x4x1024x4096, .f32⟩
  | .hbm, ⟨32, _⟩ => ⟨S2x4096x4x1024, .f32⟩
  | .hbm, ⟨33, _⟩ => ⟨S8192x4096, .f32⟩
  | .hbm, ⟨34, _⟩ => ⟨S8192x4096, .bf16⟩
  | .hbm, ⟨35, _⟩ => ⟨S4096x4096, .f32⟩
  | .hbm, ⟨36, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.Math.lean ====
/- The mLSTM recurrence over the reals, in a form that does not depend on where the sequence is cut into chunks, and the
   chunk step of it over the extended reals: what one chunk of any length computes from the state that the tokens
   before it left is the recurrence's value at that chunk's tokens. Both programs, which cut the sequence at different
   lengths, are read through these statements. -/
module

public import Idealize.ShloMosaic.Lib.Pointwise
public import Idealize.ShloMosaic.PureOps.Ideal
public import Idealize.ShloMosaic.PureOps.Ideal.Laws

@[expose] public section

noncomputable section

namespace Cert.Mlstm

open Idealize.ShloMosaic Finset

/-! ## Finite values in the extended reals -/

/-- A finite sum of reals, read in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The hyperbolic tangent of anything is a real number. -/
theorem tanh_real (x : EReal) : ∃ r : ℝ, Ideal.tanh x = (r : EReal) := by
  induction x with
  | bot => exact ⟨-1, by show (-1 : EReal) = _; push_cast; rfl⟩
  | top => exact ⟨1, by show (1 : EReal) = _; push_cast; rfl⟩
  | coe r => exact ⟨Real.tanh r, rfl⟩

/-- The soft-capped gate as a real number: fifteen times the hyperbolic tangent. -/
def capped (x : EReal) : ℝ := 15 * (Ideal.tanh x).toReal

theorem ofBits_fifteen : Ideal.ofBits .f32 0x41700000#32 = ((15 : ℝ) : EReal) := by
  simp [Ideal.ofBits, Ideal.ieee]
  rw [← EReal.coe_mul]
  norm_num

theorem ofBits_sixteenth : Ideal.ofBits .f32 0x3D800000#32 = (((1 : ℝ) / 16 : ℝ) : EReal) := by
  simp [Ideal.ofBits, Ideal.ieee]
  rw [← EReal.coe_mul]
  norm_num

theorem ofBits_neg_inf : Ideal.ofBits .f32 0xFF800000#32 = ⊥ := by
  simp [Ideal.ofBits, Ideal.ieee]

theorem capped_eq (x : EReal) : Ideal.ofBits .f32 0x41700000#32 * Ideal.tanh x = ((capped x : ℝ) : EReal) := by
  obtain ⟨r, hr⟩ := tanh_real x
  rw [ofBits_fifteen, capped, hr, EReal.toReal_coe, EReal.coe_mul]

/-- The logarithm of the logistic function. -/
def logSig (p : ℝ) : ℝ := min p 0 - Real.log (1 + Real.exp (-|p|))

theorem log1p_exp (r : ℝ) : Ideal.log1p (Ideal.exp (r : EReal)) = ((Real.log (1 + Real.exp r) : ℝ) : EReal) := by
  have h : (1 : EReal) + ((Real.exp r : ℝ) : EReal) = ((1 + Real.exp r : ℝ) : EReal) := by push_cast; rfl
  have hp : ¬ (1 + Real.exp r ≤ 0) := by have := Real.exp_pos r; linarith
  show Ideal.log (1 + ((Real.exp r : ℝ) : EReal)) = _
  rw [h]
  show (if 1 + Real.exp r ≤ 0 then (⊥ : EReal) else ((Real.log (1 + Real.exp r) : ℝ) : EReal)) = _
  rw [if_neg hp]

theorem coe_abs (p : ℝ) : max (p : EReal) (-(p : EReal)) = ((|p| : ℝ) : EReal) := by
  rw [abs_eq_max_neg, ← EReal.coe_neg, EReal.coe_strictMono.monotone.map_max]

/-- The logarithm of the logistic function as the kernel spells it. -/
theorem logSig_kernel (p : ℝ) :
    min (p : EReal) 0 - Ideal.log1p (Ideal.exp (0 - max (p : EReal) (-(p : EReal)))) = ((logSig p : ℝ) : EReal) := by
  have h0 : (0 : EReal) - ((|p| : ℝ) : EReal) = ((-|p| : ℝ) : EReal) := by
    rw [show (0 : EReal) = ((0 : ℝ) : EReal) from rfl, ← EReal.coe_sub, zero_sub]
  have hm : min (p : EReal) 0 = ((min p 0 : ℝ) : EReal) := by
    rw [show (0 : EReal) = ((0 : ℝ) : EReal) from rfl, EReal.coe_strictMono.monotone.map_min]
  rw [coe_abs, h0, log1p_exp, hm, ← EReal.coe_sub, logSig]

/-- The logarithm of the logistic function as `-softplus(-p)`. -/
theorem logSig_softplus (p : ℝ) :
    -(max (-(p : EReal)) 0 + Ideal.log1p (Ideal.exp (-(max (-(p : EReal) - 0) (-(-(p : EReal) - 0)))))) = ((logSig p : ℝ) : EReal) := by
  have hm : max (-(p : EReal)) 0 = ((max (-p) 0 : ℝ) : EReal) := by
    rw [show (0 : EReal) = ((0 : ℝ) : EReal) from rfl, ← EReal.coe_neg, EReal.coe_strictMono.monotone.map_max]
  rw [sub_zero, ← EReal.coe_neg, coe_abs, ← EReal.coe_neg, log1p_exp, EReal.coe_neg, hm, ← EReal.coe_add, ← EReal.coe_neg, logSig]
  congr 1
  rw [abs_neg, neg_add, ← sub_eq_add_neg]
  congr 1
  rcases le_total p 0 with h | h
  · rw [min_eq_left h, max_eq_left (by linarith), neg_neg]
  · rw [min_eq_right h, max_eq_right (by linarith), neg_zero]

/-! ## The recurrence -/

/-- One head of one batch element: its gates and its (scaled) queries, keys and values, by token. -/
structure Stream where
  /-- the logarithm of the forget gate -/
  lf : ℕ → ℝ
  /-- the input gate's exponent -/
  li : ℕ → ℝ
  /-- the query, scaled -/
  q : ℕ → Fin 256 → ℝ
  /-- the key -/
  k : ℕ → Fin 256 → ℝ
  /-- the value -/
  v : ℕ → Fin 512 → ℝ

namespace Stream

variable (σ : Stream)

/-- The forget gates' logarithms summed over the tokens before `t`. -/
def B (t : ℕ) : ℝ := ∑ j ∈ range t, σ.lf j

/-- Token `s`'s exponent with the forget gates up to and including it taken off. -/
def a (s : ℕ) : ℝ := σ.li s - σ.B (s + 1)

/-- The running maximum of the exponents, from zero. -/
def A : ℕ → ℝ
  | 0 => 0
  | t + 1 => max (A t) (σ.a t)

/-- The weight of token `s` in the state after `t` tokens. -/
def w (s t : ℕ) : ℝ := Real.exp (σ.a s - σ.A t)

/-- The matrix memory after `t` tokens. -/
def C (t : ℕ) (d : Fin 256) (e : Fin 512) : ℝ := ∑ s ∈ range t, σ.w s t * (σ.k s d * σ.v s e)

/-- The normalizer after `t` tokens. -/
def n (t : ℕ) (d : Fin 256) : ℝ := ∑ s ∈ range t, σ.w s t * σ.k s d

/-- The stabilizer after `t` tokens. -/
def m (t : ℕ) : ℝ := σ.B t + σ.A t

/-- The score of the query at token `t` against the key at token `s`. -/
def qk (t s : ℕ) : ℝ := ∑ d, σ.q t d * σ.k s d

/-- The numerator of the output at token `t`. -/
def num (t : ℕ) (e : Fin 512) : ℝ := ∑ s ∈ range (t + 1), σ.w s (t + 1) * (σ.qk t s * σ.v s e)

/-- The denominator of the output at token `t`, before its absolute value is bounded below. -/
def den (t : ℕ) : ℝ := ∑ s ∈ range (t + 1), σ.w s (t + 1) * σ.qk t s

/-- The output at token `t`. -/
def h (t : ℕ) (e : Fin 512) : EReal :=
  Ideal.div (σ.num t e : EReal) (max ((|σ.den t| : ℝ) : EReal) ((Real.exp (-σ.m (t + 1)) : ℝ) : EReal))

theorem A_mono {s t : ℕ} (h : s ≤ t) : σ.A s ≤ σ.A t := by
  induction h with
  | refl => exact le_refl _
  | step _ ih => exact ih.trans (le_max_left _ _)

theorem a_le_A {s t : ℕ} (h : s < t) : σ.a s ≤ σ.A t :=
  (le_max_right (σ.A s) (σ.a s)).trans (σ.A_mono h)

theorem A_add_le {T n : ℕ} {x : ℝ} (h0 : σ.A T ≤ x) (h : ∀ j < n, σ.a (T + j) ≤ x) : σ.A (T + n) ≤ x := by
  induction n with
  | zero => exact h0
  | succ n ih => exact max_le (ih fun j hj => h j (by omega)) (h n (by omega))

/-- Weights re-based from one point of the sequence to a later one. -/
theorem w_rebase (s T t : ℕ) : Real.exp (σ.A T - σ.A t) * σ.w s T = σ.w s t := by
  rw [w, w, ← Real.exp_add]; congr 1; ring

end Stream

/-! ## One chunk -/

section Chunk

variable (σ : Stream) (T : ℕ) {L : ℕ}

/-- The forget gates' logarithms summed over a chunk's first tokens up to and including token `i`. -/
def bl (i : ℕ) : ℝ := σ.B (T + i + 1) - σ.B T

/-- A chunk's decay exponent at a query and a key of it, below the diagonal. -/
def dmat (i j : Fin L) : EReal :=
  if j.val ≤ i.val then ((bl σ T i.val : ℝ) : EReal) - ((bl σ T j.val : ℝ) : EReal) + ((σ.li (T + j.val) : ℝ) : EReal) else ⊥

theorem dmat_eq (i j : Fin L) :
    dmat σ T i j = if j.val ≤ i.val then ((bl σ T i.val + σ.a (T + j.val) + σ.B T : ℝ) : EReal) else ⊥ := by
  unfold dmat
  split
  · rw [← EReal.coe_sub, ← EReal.coe_add]; congr 1; simp only [bl, Stream.a]; ring
  · rfl

/-- The row's stabilizer. -/
theorem mrow_eq (i : Fin L) :
    max (((bl σ T i.val : ℝ) : EReal) + ((σ.m T : ℝ) : EReal)) (Finset.univ.fold max ⊥ fun j => dmat σ T i j)
      = ((σ.m (T + i.val + 1) : ℝ) : EReal) := by
  have hb : bl σ T i.val = σ.B (T + i.val + 1) - σ.B T := rfl
  apply le_antisymm
  · refine max_le ?_ (Finset.fold_max_le _ |>.mpr ⟨bot_le, fun j _ => ?_⟩)
    · rw [← EReal.coe_add, EReal.coe_le_coe_iff]
      have := σ.A_mono (show T ≤ T + i.val + 1 by omega)
      simp only [Stream.m, hb]; linarith
    · rw [dmat_eq]
      split
      · rename_i hj
        rw [EReal.coe_le_coe_iff]
        have := σ.a_le_A (show T + j.val < T + i.val + 1 by omega)
        simp only [Stream.m, hb]; linarith
      · exact bot_le
  · obtain ⟨x, hx⟩ : ∃ x : ℝ, max (((bl σ T i.val : ℝ) : EReal) + ((σ.m T : ℝ) : EReal)) (Finset.univ.fold max ⊥ fun j => dmat σ T i j) = (x : EReal) := by
      refine ⟨_, (EReal.coe_toReal (ne_of_lt ?_) (ne_of_gt ?_)).symm⟩
      · refine max_lt ?_ (Finset.fold_max_lt _ |>.mpr ⟨bot_lt_top, fun j _ => ?_⟩)
        · rw [← EReal.coe_add]; exact EReal.coe_lt_top _
        · rw [dmat_eq]; split
          · exact EReal.coe_lt_top _
          · exact bot_lt_top
      · refine lt_max_of_lt_left ?_
        rw [← EReal.coe_add]; exact EReal.bot_lt_coe _
    rw [hx, EReal.coe_le_coe_iff]
    have h1 : σ.B (T + i.val + 1) + σ.A T ≤ x := by
      have := le_of_le_of_eq (le_max_left _ _) hx
      rw [← EReal.coe_add, EReal.coe_le_coe_iff, hb] at this
      simp only [Stream.m] at this; linarith
    have h2 : ∀ j < i.val + 1, σ.a (T + j) + σ.B (T + i.val + 1) ≤ x := fun j hj => by
      have h3 := le_of_le_of_eq (le_max_right _ _) hx
      have h4 := (Finset.fold_max_le _ |>.mp h3).2 ⟨j, by omega⟩ (Finset.mem_univ _)
      rw [dmat_eq, if_pos (show j ≤ i.val by omega), EReal.coe_le_coe_iff, hb] at h4
      simp only at h4; linarith
    have h5 : σ.A (T + (i.val + 1)) ≤ x - σ.B (T + i.val + 1) :=
      σ.A_add_le (by linarith) fun j hj => by have := h2 j hj; linarith
    have h6 : T + (i.val + 1) = T + i.val + 1 := by omega
    rw [h6] at h5
    simp only [Stream.m]; linarith

/-- The weight of a key at a query of its chunk. -/
theorem wintra_eq (i j : Fin L) :
    Ideal.exp (dmat σ T i j - ((σ.m (T + i.val + 1) : ℝ) : EReal))
      = (((if j.val ≤ i.val then σ.w (T + j.val) (T + i.val + 1) else 0 : ℝ)) : EReal) := by
  rw [dmat_eq]
  split
  · rw [← EReal.coe_sub, Ideal.exp_coe, Stream.w]
    congr 2
    simp only [bl, Stream.m]; ring
  · rw [EReal.bot_sub]; show (0 : EReal) = _; push_cast; rfl

/-- The weight, at a query, of the state before its chunk. -/
theorem sinter_eq (i : ℕ) :
    Ideal.exp (((bl σ T i : ℝ) : EReal) + ((σ.m T : ℝ) : EReal) - ((σ.m (T + i + 1) : ℝ) : EReal))
      = ((Real.exp (σ.A T - σ.A (T + i + 1)) : ℝ) : EReal) := by
  rw [← EReal.coe_add, ← EReal.coe_sub, Ideal.exp_coe]
  congr 2
  simp only [bl, Stream.m]; ring

/-- A key's exponent at the end of its chunk, `last` being the chunk's last token. -/
def arow (last : ℕ) (j : ℕ) : EReal :=
  ((bl σ T last : ℝ) : EReal) - ((bl σ T j : ℝ) : EReal) + ((σ.li (T + j) : ℝ) : EReal)

/-- The stabilizer after the chunk. -/
theorem mnew_eq (last : ℕ) (hL : L = last + 1) :
    max (((bl σ T last : ℝ) : EReal) + ((σ.m T : ℝ) : EReal)) (Finset.univ.fold max ⊥ fun j : Fin L => arow σ T last j.val)
      = ((σ.m (T + L) : ℝ) : EReal) := by
  subst hL
  have h := mrow_eq σ T (⟨last, by omega⟩ : Fin (last + 1))
  have hf : (fun j : Fin (last + 1) => dmat σ T (⟨last, by omega⟩ : Fin (last + 1)) j) = fun j => arow σ T last j.val := by
    funext j
    rw [dmat, if_pos (show j.val ≤ last by omega), arow]
  rw [hf] at h
  exact h

/-- The weight, after the chunk, of the state before it. -/
theorem sstate_eq (last : ℕ) (hL : L = last + 1) :
    Ideal.exp (((bl σ T last : ℝ) : EReal) + ((σ.m T : ℝ) : EReal) - ((σ.m (T + L) : ℝ) : EReal))
      = ((Real.exp (σ.A T - σ.A (T + L)) : ℝ) : EReal) := by
  subst hL; exact sinter_eq σ T last

/-- The weight, after the chunk, of a key of it. -/
theorem e_eq (last : ℕ) (hL : L = last + 1) (j : ℕ) :
    Ideal.exp (arow σ T last j - ((σ.m (T + L) : ℝ) : EReal)) = ((σ.w (T + j) (T + L) : ℝ) : EReal) := by
  subst hL
  rw [arow, ← EReal.coe_sub, ← EReal.coe_add, ← EReal.coe_sub, Ideal.exp_coe, Stream.w]
  congr 2
  simp only [bl, Stream.m, Stream.a]
  rw [show T + (last + 1) = T + last + 1 by omega]; ring

/-- A sum over the chunk's keys up to a query is a sum over that many tokens. -/
theorem sum_le (i : Fin L) (f : ℕ → ℝ) :
    (∑ j : Fin L, if j.val ≤ i.val then f j.val else 0) = ∑ j ∈ range (i.val + 1), f j := by
  rw [Fin.sum_univ_eq_sum_range (fun j => if j ≤ i.val then f j else 0) L, ← Finset.sum_filter]
  refine Finset.sum_congr ?_ fun _ _ => rfl
  ext x
  simp only [Finset.mem_filter, Finset.mem_range]
  omega

/-- The numerator: the state's part and the chunk's part. -/
theorem num_eq (i : Fin L) (e : Fin 512) :
    Real.exp (σ.A T - σ.A (T + i.val + 1)) * (∑ d, σ.q (T + i.val) d * σ.C T d e)
        + ∑ j : Fin L, (σ.qk (T + i.val) (T + j.val) * if j.val ≤ i.val then σ.w (T + j.val) (T + i.val + 1) else 0) * σ.v (T + j.val) e
      = σ.num (T + i.val) e := by
  have h1 : ∑ d, σ.q (T + i.val) d * σ.C T d e = ∑ s ∈ range T, σ.w s T * (σ.qk (T + i.val) s * σ.v s e) := by
    simp only [Stream.C, Stream.qk, Finset.mul_sum, Finset.sum_mul]
    rw [Finset.sum_comm]
    refine Finset.sum_congr rfl fun s _ => ?_
    refine Finset.sum_congr rfl fun d _ => ?_
    ring
  have h2 : ∀ j : Fin L, (σ.qk (T + i.val) (T + j.val) * (if j.val ≤ i.val then σ.w (T + j.val) (T + i.val + 1) else 0)) * σ.v (T + j.val) e
      = if j.val ≤ i.val then σ.w (T + j.val) (T + i.val + 1) * (σ.qk (T + i.val) (T + j.val) * σ.v (T + j.val) e) else 0 := fun j => by
    split <;> ring
  simp only [h2]
  rw [h1,
    sum_le i fun j => σ.w (T + j) (T + i.val + 1) * (σ.qk (T + i.val) (T + j) * σ.v (T + j) e), Stream.num,
    show T + i.val + 1 = T + (i.val + 1) by omega, Finset.sum_range_add _ T, Finset.mul_sum]
  congr 1
  refine Finset.sum_congr rfl fun s _ => ?_
  rw [← mul_assoc, σ.w_rebase]

/-- The denominator likewise. -/
theorem den_eq (i : Fin L) :
    Real.exp (σ.A T - σ.A (T + i.val + 1)) * (∑ d, σ.q (T + i.val) d * σ.n T d)
        + ∑ j : Fin L, (σ.qk (T + i.val) (T + j.val) * if j.val ≤ i.val then σ.w (T + j.val) (T + i.val + 1) else 0)
      = σ.den (T + i.val) := by
  have h1 : ∑ d, σ.q (T + i.val) d * σ.n T d = ∑ s ∈ range T, σ.w s T * σ.qk (T + i.val) s := by
    simp only [Stream.n, Stream.qk, Finset.mul_sum]
    rw [Finset.sum_comm]
    refine Finset.sum_congr rfl fun s _ => ?_
    refine Finset.sum_congr rfl fun d _ => ?_
    ring
  have h2 : ∀ j : Fin L, (σ.qk (T + i.val) (T + j.val) * if j.val ≤ i.val then σ.w (T + j.val) (T + i.val + 1) else 0)
      = if j.val ≤ i.val then σ.w (T + j.val) (T + i.val + 1) * σ.qk (T + i.val) (T + j.val) else 0 := fun j => by
    split <;> ring
  simp only [h2]
  rw [h1, sum_le i fun j => σ.w (T + j) (T + i.val + 1) * σ.qk (T + i.val) (T + j), Stream.den,
    show T + i.val + 1 = T + (i.val + 1) by omega, Finset.sum_range_add _ T, Finset.mul_sum]
  congr 1
  refine Finset.sum_congr rfl fun s _ => ?_
  rw [← mul_assoc, σ.w_rebase]

/-- The matrix memory after the chunk. -/
theorem C_step (d : Fin 256) (e : Fin 512) :
    Real.exp (σ.A T - σ.A (T + L)) * σ.C T d e
        + ∑ j : Fin L, (σ.k (T + j.val) d * σ.w (T + j.val) (T + L)) * σ.v (T + j.val) e = σ.C (T + L) d e := by
  rw [Fin.sum_univ_eq_sum_range (fun j => (σ.k (T + j) d * σ.w (T + j) (T + L)) * σ.v (T + j) e) L, Stream.C, Stream.C,
    Finset.sum_range_add, Finset.mul_sum]
  congr 1
  · refine Finset.sum_congr rfl fun s _ => ?_
    rw [← mul_assoc, σ.w_rebase]
  · refine Finset.sum_congr rfl fun s _ => by ring

/-- The normalizer after the chunk. -/
theorem n_step (d : Fin 256) :
    Real.exp (σ.A T - σ.A (T + L)) * σ.n T d
        + ∑ j : Fin L, (σ.k (T + j.val) d * σ.w (T + j.val) (T + L)) = σ.n (T + L) d := by
  rw [Fin.sum_univ_eq_sum_range (fun j => (σ.k (T + j) d * σ.w (T + j) (T + L))) L, Stream.n, Stream.n,
    Finset.sum_range_add, Finset.mul_sum]
  congr 1
  · refine Finset.sum_congr rfl fun s _ => ?_
    rw [← mul_assoc, σ.w_rebase]
  · refine Finset.sum_congr rfl fun s _ => by ring

end Chunk

/-- The layer's output at a token of a head: the head's output over its root mean square, by the head's weight `hn`,
    gated by the logistic of `o`. -/
def outVal (σ : Stream) (t : ℕ) (e : Fin 512) (o hn : EReal) : EReal :=
  Ideal.logistic o * (σ.h t e * Ideal.rsqrt (Ideal.div (∑ x, σ.h t x * σ.h t x) (Ideal.ofBits .f32 1140850688#32)
    + Ideal.ofBits .f32 897988541#32) * hn)

end Cert.Mlstm

end
-- ==== Proof.Head.lean ====
module

public import proofs.«01_k».proof.Proof.Gen.KernelIdeal.Frame
public import proofs.«01_k».proof.Proof.Math
public import Idealize.ShloMosaic.Lib.Pointwise
@[expose] public section
set_option maxRecDepth 16384
noncomputable section
namespace Cert.KernelIdeal.Head
open Cert.KernelIdeal Cert.KernelIdeal.Gen Idealize.ShloMosaic Idealize.ShloMosaic.TcCoe Idealize.SL.Sem
open Cert.Mlstm

/-- A head's cumulative forget exponents, one to a row. -/
def hSq (b : FVec Ideal S1x256 .f32) : FVec Ideal S256x256 .f32 :=
  transpose S256x256 [1, 0] (broadcastTo S256x256 (shapeCast S1x256 b shapeCasts_S1x256_S1x256) broadcasts_S1x256_S256x256)
    transposes_S256x256_p1_0_S256x256

/-- A head's decay exponents, below the diagonal. -/
def hDm (b l : FVec Ideal S1x256 .f32) : FVec Ideal S256x256 .f32 :=
  select (cmpi .sle (iota .tc S256x256 32 [1] iota_S256x256_d1_w32) (iota .tc S256x256 32 [0] iota_S256x256_d0_w32))
    (addf (subf (hSq b) (broadcastTo S256x256 b broadcasts_S1x256_S256x256)) (broadcastTo S256x256 l broadcasts_S1x256_S256x256))
    (broadcast S256x256 (Scalar.ofBits .f32 0xFF800000#32))

theorem hSq_at (b) (i j : Fin 256) : hSq b (ix2 i j) = b (ix2 0 i) := by
  pointwise [hSq]
theorem hDm_at (b l) (i j : Fin 256) : hDm b l (ix2 i j) = if j.val ≤ i.val then b (ix2 0 i) - b (ix2 0 j) + l (ix2 0 j) else ⊥ := by
  pointwise [hDm, hSq]
  have hc : IntOp.cmpi CmpIPredicate.sle (BitVec.ofNat 32 j.val) (BitVec.ofNat 32 i.val) = BitVec.ofBool (decide (j.val ≤ i.val)) := by
    revert i j; decide +kernel
  rw [hc, ofBits_neg_inf]
  by_cases h : j.val ≤ i.val <;> simp [h, Scalar.select]

/-! One head's values in the kernel's text for its first head, from the head's gate row `l`, its
    cumulative forget row `b`, its carried stabilizer `mp`, memory `C`, normalizer `n`, and the
    chunk's queries, keys, values, output gates and head weights. -/

variable (l b : FVec Ideal S1x256 .f32) (mp : FVec Ideal S1x1 .f32) (C : FVec Ideal S256x512 .f32) (n : FVec Ideal S1x256 .f32)
  (q k : Vec Ideal S1x256x256 .bf16) (v o : Vec Ideal S1x256x512 .bf16) (hn : Vec Ideal S1x512 .f32)

def hMrow : FVec Ideal S256x1 .f32 := k0_pay37 mp (hSq b) (hDm b l)
def hW : FVec Ideal S256x256 .f32 := k0_pay41 mp (hSq b) (hDm b l)
def hSint : FVec Ideal S256x1 .f32 := k0_pay45 mp (hSq b) (hDm b l)
def hQK : FVec Ideal S256x256 .f32 := k0_pay78 (hW l b mp) q k
def hNum : FVec Ideal S256x512 .f32 := k0_pay87 (hSint l b mp) C (hQK l b mp q k) q v
def hQn : FVec Ideal S256x1 .f32 := k0_pay91 n q
def hH : FVec Ideal S256x512 .f32 :=
  k0_pay97 (hMrow l b mp) (hSint l b mp) (hQK l b mp q k) (hNum l b mp C q k v) (hQn n q)
def hOut : FVec Ideal S1x256x512 .bf16 := k0_pay98 (hH l b mp C n q k v) o hn
def hC : FVec Ideal S1x256x512 .f32 := k0_pay110 (k0_pay109 (k0_pay62 l b mp) (k0_pay66 l b mp) C k v)
def hN : FVec Ideal S1x1x256 .f32 := k0_pay111 (k0_pay62 l b mp) n (k0_pay108 (k0_pay66 l b mp) k)
def hM : FVec Ideal S1x1x128 .f32 := k0_pay112 (k0_pay58 l b mp)

/-- What a head of the kernel reads at a chunk that starts at token `T`. -/
structure Reads (σ : Stream) (T : ℕ) : Prop where
  b : ∀ j : Fin 256, b (ix2 0 j) = ((bl σ T j.val : ℝ) : EReal)
  l : ∀ j : Fin 256, l (ix2 0 j) = ((σ.li (T + j.val) : ℝ) : EReal)
  m : mp (ix2 0 0) = ((σ.m T : ℝ) : EReal)
  C : ∀ d e, C (ix2 d e) = ((σ.C T d e : ℝ) : EReal)
  n : ∀ d, n (ix2 0 d) = ((σ.n T d : ℝ) : EReal)
  q : ∀ (i d : Fin 256), q (ix3 0 i d) = ((16 * σ.q (T + i.val) d : ℝ) : EReal)
  k : ∀ (i d : Fin 256), k (ix3 0 i d) = ((σ.k (T + i.val) d : ℝ) : EReal)
  v : ∀ (i : Fin 256) e, v (ix3 0 i e) = ((σ.v (T + i.val) e : ℝ) : EReal)

variable {l b mp C n q k v} {σ : Stream} {T : ℕ} (R : Reads l b mp C n q k v σ T)
include R

theorem dm_eq (i j : Fin 256) : hDm b l (ix2 i j) = dmat σ T i j := by
  rw [hDm_at, R.b, R.b, R.l, dmat]

theorem mrow_at (i : Fin 256) : hMrow l b mp (ix2 i 0) = ((σ.m (T + i.val + 1) : ℝ) : EReal) := by
  pointwise [hMrow, k0_pay37, k0_pay33]
  rw [hSq_at, R.b, R.m, ofBits_neg_inf, ← mrow_eq σ T i]
  simp only [dm_eq R]

theorem w_at (i j : Fin 256) :
    hW l b mp (ix2 i j) = ((if j.val ≤ i.val then σ.w (T + j.val) (T + i.val + 1) else 0 : ℝ) : EReal) := by
  pointwise [hW, k0_pay41]
  rw [← wintra_eq, ← mrow_at R, dm_eq R]; rfl

theorem sint_at (i : Fin 256) : hSint l b mp (ix2 i 0) = ((Real.exp (σ.A T - σ.A (T + i.val + 1)) : ℝ) : EReal) := by
  pointwise [hSint, k0_pay45, k0_pay33]
  rw [← sinter_eq, ← mrow_at R, hSq_at, R.b, R.m]; rfl

theorem qk_at (i j : Fin 256) : hQK l b mp q k (ix2 i j)
    = ((σ.qk (T + i.val) (T + j.val) * (if j.val ≤ i.val then σ.w (T + j.val) (T + i.val + 1) else 0) : ℝ) : EReal) := by
  pointwise [hQK, k0_pay78]
  rw [w_at R, ofBits_sixteenth]
  simp only [R.q, R.k]
  simp only [← EReal.coe_mul, coe_sum]
  congr 2
  simp only [Stream.qk, Finset.sum_mul]
  refine Finset.sum_congr rfl fun d _ => ?_
  ring

theorem num_at (i : Fin 256) (e : Fin 512) : hNum l b mp C q k v (ix2 i e) = ((σ.num (T + i.val) e : ℝ) : EReal) := by
  pointwise [hNum, k0_pay87]
  simp only [sint_at R, qk_at R, R.q, R.C, R.v, ofBits_sixteenth]
  simp only [← EReal.coe_mul, coe_sum, ← EReal.coe_add]
  rw [← num_eq σ T i e]
  congr 3
  simp only [Finset.sum_mul]
  refine Finset.sum_congr rfl fun d _ => ?_
  ring

theorem den_at (i : Fin 256) : hSint l b mp (ix2 i 0) * hQn n q (ix2 i 0) + ∑ x : Fin 256, hQK l b mp q k (ix2 i x)
    = ((σ.den (T + i.val) : ℝ) : EReal) := by
  have hq : hQn n q (ix2 i 0) = ((∑ d, σ.q (T + i.val) d * σ.n T d : ℝ) : EReal) := by
    pointwise [hQn, k0_pay91]
    simp only [R.q, R.n, ofBits_sixteenth]
    simp only [← EReal.coe_mul, coe_sum]
    congr 1
    simp only [Finset.sum_mul]
    refine Finset.sum_congr rfl fun d _ => ?_
    ring
  rw [hq]
  simp only [sint_at R, qk_at R]
  simp only [← EReal.coe_mul, coe_sum, ← EReal.coe_add]
  rw [← den_eq σ T i]

theorem h_at (i : Fin 256) (e : Fin 512) : hH l b mp C n q k v (ix2 i e) = σ.h (T + i.val) e := by
  pointwise [hH, k0_pay97]
  rw [den_at R, num_at R, mrow_at R, Ideal.absf_def, coe_abs, zero_sub, ← EReal.coe_neg, Ideal.exp_coe]
  rfl

theorem out_at (i : Fin 256) (e : Fin 512) : hOut l b mp C n q k v o hn (ix3 0 i e)
    = outVal σ (T + i.val) e (o (ix3 0 i e)) (hn (ix2 0 e)) := by
  pointwise [hOut, k0_pay98]
  simp only [h_at R]
  rfl

theorem mnew_at : k0_pay58 l b mp (ix2 0 0) = ((σ.m (T + 256) : ℝ) : EReal) := by
  pointwise [k0_pay58, k0_pay54, k0_pay50]
  rw [← mnew_eq σ T (L := 256) 255 rfl]
  simp only [R.b, R.l, R.m, ofBits_neg_inf]
  rfl

theorem s_at : k0_pay62 l b mp (ix2 0 0) = ((Real.exp (σ.A T - σ.A (T + 256)) : ℝ) : EReal) := by
  pointwise [k0_pay62, k0_pay54, k0_pay50]
  rw [mnew_at R, R.b, R.m, ← sstate_eq σ T 255 rfl]
  rfl

theorem e_at (j : Fin 256) : k0_pay66 l b mp (ix2 j 0) = ((σ.w (T + j.val) (T + 256) : ℝ) : EReal) := by
  pointwise [k0_pay66, k0_pay54, k0_pay50]
  rw [mnew_at R, R.b, R.b, R.l, ← e_eq σ T 255 rfl]
  rfl

theorem C_at (d : Fin 256) (e : Fin 512) : hC l b mp C k v (ix3 0 d e) = ((σ.C (T + 256) d e : ℝ) : EReal) := by
  pointwise [hC, k0_pay110, k0_pay109, k0_pay108]
  simp only [s_at R, e_at R, R.C, R.k, R.v]
  simp only [← EReal.coe_mul, coe_sum, ← EReal.coe_add]
  rw [C_step σ T d e]

theorem n_at (d : Fin 256) : hN l b mp n k (ix3 0 0 d) = ((σ.n (T + 256) d : ℝ) : EReal) := by
  pointwise [hN, k0_pay111, k0_pay108]
  simp only [s_at R, e_at R, R.n, R.k]
  simp only [← EReal.coe_mul, coe_sum, ← EReal.coe_add]
  rw [n_step σ T d]

theorem m_at (d : Fin 128) : hM l b mp (ix3 0 0 d) = ((σ.m (T + 256) : ℝ) : EReal) := by
  pointwise [hM, k0_pay112]
  exact mnew_at R

end Cert.KernelIdeal.Head
end
-- ==== Proof.Scan.lean ====
module

public import proofs.«01_k».proof.Proof.Gen.KernelIdeal.Frame
public import proofs.«01_k».proof.Proof.Math
public import Idealize.ShloMosaic.Lib.Pointwise
@[expose] public section
set_option maxRecDepth 16384
noncomputable section
namespace Cert.KernelIdeal.Scan
open Cert.KernelIdeal Cert.KernelIdeal.Gen Idealize.ShloMosaic Idealize.ShloMosaic.TcCoe Idealize.SL.Sem
open Cert.Mlstm

/-- The argument of a gate's cap: the gate's row plus its bias, over fifteen. -/
def gateArg (x5 : Vec Ideal S1x8x256 .f32) (x0 : Vec Ideal S8x1 .f32) (r : Fin 8) (j : Fin 256) : EReal :=
  Ideal.div (x5 (ix3 0 r j) + x0 (ix2 r 0)) (Ideal.ofBits .f32 0x41700000#32)

theorem pre_at (x5 x0) (r : Fin 8) (j : Fin 256) : k0_pay6 (F := Ideal) x5 x0 (ix2 r j) = ((capped (gateArg x5 x0 r j) : ℝ) : EReal) := by
  pointwise [k0_pay6]
  rw [← capped_eq]; rfl

/-- The logarithm of the logistic function, as the kernel takes it of every gate row. -/
def lfv (x5 : Vec Ideal S1x8x256 .f32) (x0 : Vec Ideal S8x1 .f32) : FVec Ideal S8x256 .f32 :=
  subf (minimumf (k0_pay6 x5 x0) (broadcast S8x256 (Scalar.ofBits .f32 0#32)))
    (log1p (exp (subf (broadcast S8x256 (Scalar.ofBits .f32 0#32)) (absf (k0_pay6 x5 x0)))))

theorem lfv_at (x5 x0) (r : Fin 8) (j : Fin 256) : lfv x5 x0 (ix2 r j) = ((logSig (capped (gateArg x5 x0 r j)) : ℝ) : EReal) := by
  pointwise [lfv]
  simp only [pre_at, Ideal.absf_def]
  rw [← logSig_kernel]

/-- One step of the running sum along the lanes: the lane `sh` to the left is added, where there is one. -/
def scanStep (sh : BitVec 32) (x : FVec Ideal S8x256 .f32) : FVec Ideal S8x256 .f32 :=
  addf x (select (cmpi .sge (iota .tc S8x256 32 [1] iota_S8x256_d1_w32) (broadcast S8x256 sh))
    (dynamicRotate 1 sh none x rotates_S8x256_d1) (broadcast S8x256 (Scalar.ofBits .f32 0#32)))

/-- The kernel's running sums of every gate row. -/
def bAll (x5 : Vec Ideal S1x8x256 .f32) (x0 : Vec Ideal S8x1 .f32) : FVec Ideal S8x256 .f32 :=
  k0_pay9 (iota .tc S8x256 32 [1] iota_S8x256_d1_w32) (k0_pay7 x5 x0) k0_pay8 2#32

theorem bAll_eq (x5 x0) : bAll x5 x0 = scanStep 128#32 (scanStep 64#32 (scanStep 32#32 (scanStep 16#32
    (scanStep 8#32 (scanStep 4#32 (scanStep 2#32 (scanStep 1#32 (lfv x5 x0)))))))) := rfl

/-- The sum over the `n` lanes ending at lane `i`. -/
def win (f : ℕ → ℝ) (n i : ℕ) : ℝ := ∑ j ∈ Finset.Ico (i + 1 - n) (i + 1), f j

theorem win_double (f : ℕ → ℝ) (n i : ℕ) : win f n i + (if n ≤ i then win f n (i - n) else 0) = win f (n + n) i := by
  unfold win
  split
  · rename_i h
    rw [show i - n + 1 - n = i + 1 - (n + n) by omega, show i - n + 1 = i + 1 - n by omega, add_comm,
      Finset.sum_Ico_consecutive f (by omega) (by omega)]
  · rename_i h
    rw [show i + 1 - n = 0 by omega, show i + 1 - (n + n) = 0 by omega, add_zero]

theorem scanStep_at (n : ℕ) (hn : n < 256) (x : FVec Ideal S8x256 .f32) (r : Fin 8) (f : ℕ → ℝ)
    (hx : ∀ i : Fin 256, x (ix2 r i) = ((win f n i.val : ℝ) : EReal)) (i : Fin 256) :
    scanStep (BitVec.ofNat 32 n) x (ix2 r i) = ((win f (n + n) i.val : ℝ) : EReal) := by
  have hsh : (BitVec.ofNat 32 n).toNat = n := by simp; omega
  have hc : IntOp.cmpi CmpIPredicate.sge (BitVec.ofNat 32 i.val) (BitVec.ofNat 32 n) = BitVec.ofBool (decide (n ≤ i.val)) := by
    have := (by decide +kernel : ∀ (n i : Fin 256), IntOp.cmpi CmpIPredicate.sge (BitVec.ofNat 32 i.val) (BitVec.ofNat 32 n.val) = BitVec.ofBool (decide (n.val ≤ i.val)))
    exact this ⟨n, hn⟩ i
  pointwise [scanStep]
  rw [hc]
  by_cases h : n ≤ i.val
  · have hi : (⟨(i.val + 256 - (BitVec.ofNat 32 n).toNat % 256) % 256, Nat.mod_lt _ (by omega)⟩ : Fin 256) = ⟨i.val - n, by omega⟩ :=
      Fin.ext (by show (i.val + 256 - (BitVec.ofNat 32 n).toNat % 256) % 256 = i.val - n; omega)
    rw [hi, hx, hx, ← win_double, if_pos h, EReal.coe_add]
    simp [h, Scalar.select]
  · rw [hx, ← win_double, if_neg h]
    simp [h, Scalar.select]

/-- The kernel's running sum of a gate row at a lane is the sum of the row up to and including it. -/
theorem bAll_at (x5 x0) (r : Fin 8) (f : ℕ → ℝ) (hf : ∀ j : Fin 256, f j.val = logSig (capped (gateArg x5 x0 r j))) (i : Fin 256) :
    bAll x5 x0 (ix2 r i) = ((∑ j ∈ Finset.range (i.val + 1), f j : ℝ) : EReal) := by
  have h1 : ∀ i : Fin 256, lfv x5 x0 (ix2 r i) = ((win f 1 i.val : ℝ) : EReal) := fun i => by
    rw [lfv_at, ← hf]; simp [win]
  have h := scanStep_at 128 (by omega) _ r f (scanStep_at 64 (by omega) _ r f (scanStep_at 32 (by omega) _ r f
    (scanStep_at 16 (by omega) _ r f (scanStep_at 8 (by omega) _ r f (scanStep_at 4 (by omega) _ r f
    (scanStep_at 2 (by omega) _ r f (scanStep_at 1 (by omega) _ r f h1))))))) i
  rw [bAll_eq]
  refine h.trans ?_
  have : i.val < 256 := i.isLt
  rw [win, show i.val + 1 - (128 + 128) = 0 by omega, Finset.range_eq_Ico]

end Cert.KernelIdeal.Scan
end
-- ==== Proof.Block.lean ====
module

public import proofs.«01_k».proof.Proof.Head
public import proofs.«01_k».proof.Proof.Scan
@[expose] public section
set_option maxRecDepth 16384
noncomputable section
namespace Cert.KernelIdeal.Block
open Cert.KernelIdeal Cert.KernelIdeal.Gen Idealize.ShloMosaic Idealize.ShloMosaic.TcCoe Idealize.SL.Sem
open Cert.Mlstm Cert.KernelIdeal.Head Cert.KernelIdeal.Scan

variable (x0 : Vec Ideal S8x1 .f32) (x1 x2 : Vec Ideal S1x256x1024 .bf16) (x3 : Vec Ideal S1x256x2048 .bf16)
  (x5 : Vec Ideal S1x8x256 .f32) (X0 : Vec Ideal S4x256x512 .f32) (X1 : Vec Ideal S4x1x256 .f32) (X2 : Vec Ideal S4x1x128 .f32)

/-- What a grid point reads when its chunk starts at token `T` of the four heads' streams. -/
structure Holds (σ : Fin 4 → Stream) (T : ℕ) : Prop where
  gi : ∀ (h : Fin 4) (j : Fin 256), (σ h).li (T + j.val) = capped (gateArg x5 x0 ⟨h.val, by omega⟩ j)
  gf : ∀ (h : Fin 4) (j : Fin 256), (σ h).lf (T + j.val) = logSig (capped (gateArg x5 x0 ⟨4 + h.val, by omega⟩ j))
  q : ∀ (h : Fin 4) (i d : Fin 256), x1 (ix3 0 i ⟨256 * h.val + d.val, by omega⟩) = ((16 * (σ h).q (T + i.val) d : ℝ) : EReal)
  k : ∀ (h : Fin 4) (i d : Fin 256), x2 (ix3 0 i ⟨256 * h.val + d.val, by omega⟩) = (((σ h).k (T + i.val) d : ℝ) : EReal)
  v : ∀ (h : Fin 4) (i : Fin 256) (e : Fin 512), x3 (ix3 0 i ⟨512 * h.val + e.val, by omega⟩) = (((σ h).v (T + i.val) e : ℝ) : EReal)
  C : ∀ (h : Fin 4) d e, X0 (ix3 h d e) = (((σ h).C T d e : ℝ) : EReal)
  n : ∀ (h : Fin 4) d, X1 (ix3 h 0 d) = (((σ h).n T d : ℝ) : EReal)
  m : ∀ (h : Fin 4) (d : Fin 128), X2 (ix3 h 0 d) = (((σ h).m T : ℝ) : EReal)

variable {x0 x1 x2 x3 x5 X0 X1 X2} {σ : Fin 4 → Stream} {T : ℕ} (N : Holds x0 x1 x2 x3 x5 X0 X1 X2 σ T)
include N

theorem Holds.li_at (h : Fin 4) (j : Fin 256) : k0_pay6 x5 x0 (ix2 ⟨h.val, by omega⟩ j) = (((σ h).li (T + j.val) : ℝ) : EReal) := by
  rw [pre_at, N.gi]

theorem Holds.bl_at (h : Fin 4) (j : Fin 256) : bAll x5 x0 (ix2 ⟨4 + h.val, by omega⟩ j) = ((bl (σ h) T j.val : ℝ) : EReal) := by
  rw [bAll_at x5 x0 _ (fun j => (σ h).lf (T + j)) (fun j => N.gf h j) j, bl, Stream.B, Stream.B, add_assoc, Finset.sum_range_add _ T,
    add_sub_cancel_left]

theorem reads0 : Reads (k0_pay10 (k0_pay6 x5 x0)) (k0_pay14 (bAll x5 x0))
    (k0_pay18 (View.ld X2 (Rect.unit ![0, 0, 0] ![1, 1, 128] inb_S4x1x128_S1x1x128_0_0_0)))
    (k0_pay70 (View.ld X0 (Rect.unit ![0, 0, 0] ![1, 256, 512] inb_S4x256x512_S1x256x512_0_0_0)))
    (k0_pay74 (View.ld X1 (Rect.unit ![0, 0, 0] ![1, 1, 256] inb_S4x1x256_S1x1x256_0_0_0)))
    (View.ld x1 (Rect.unit ![0, 0, 0] ![1, 256, 256] inb_S1x256x1024_S1x256x256_0_0_0))
    (View.ld x2 (Rect.unit ![0, 0, 0] ![1, 256, 256] inb_S1x256x1024_S1x256x256_0_0_0))
    (View.ld x3 (Rect.unit ![0, 0, 0] ![1, 256, 512] inb_S1x256x2048_S1x256x512_0_0_0)) (σ 0) T where
  b j := by
    pointwise [k0_pay14]
    exact N.bl_at 0 j
  l j := by
    pointwise [k0_pay10]
    exact N.li_at 0 j
  m := by
    pointwise [k0_pay18]
    exact N.m 0 0
  C d e := by
    pointwise [k0_pay70]
    exact N.C 0 d e
  n d := by
    pointwise [k0_pay74]
    exact N.n 0 d
  q i d := by
    pointwise []
    simpa only [Fin.val_zero, Nat.mul_zero, Nat.zero_add] using N.q 0 i d
  k i d := by
    pointwise []
    simpa only [Fin.val_zero, Nat.mul_zero, Nat.zero_add] using N.k 0 i d
  v i e := by
    pointwise []
    simpa only [Fin.val_zero, Nat.mul_zero, Nat.zero_add] using N.v 0 i e

theorem reads1 : Reads (k0_pay11 (k0_pay6 x5 x0)) (k0_pay15 (bAll x5 x0))
    (k0_pay19 (View.ld X2 (Rect.unit ![1, 0, 0] ![1, 1, 128] inb_S4x1x128_S1x1x128_1_0_0)))
    (k0_pay71 (View.ld X0 (Rect.unit ![1, 0, 0] ![1, 256, 512] inb_S4x256x512_S1x256x512_1_0_0)))
    (k0_pay75 (View.ld X1 (Rect.unit ![1, 0, 0] ![1, 1, 256] inb_S4x1x256_S1x1x256_1_0_0)))
    (View.ld x1 (Rect.unit ![0, 0, 256] ![1, 256, 256] inb_S1x256x1024_S1x256x256_0_0_256))
    (View.ld x2 (Rect.unit ![0, 0, 256] ![1, 256, 256] inb_S1x256x1024_S1x256x256_0_0_256))
    (View.ld x3 (Rect.unit ![0, 0, 512] ![1, 256, 512] inb_S1x256x2048_S1x256x512_0_0_512)) (σ 1) T where
  b j := by
    pointwise [k0_pay15]
    exact N.bl_at 1 j
  l j := by
    pointwise [k0_pay11]
    exact N.li_at 1 j
  m := by
    pointwise [k0_pay19]
    exact N.m 1 0
  C d e := by
    pointwise [k0_pay71]
    exact N.C 1 d e
  n d := by
    pointwise [k0_pay75]
    exact N.n 1 d
  q i d := by
    pointwise []
    exact N.q 1 i d
  k i d := by
    pointwise []
    exact N.k 1 i d
  v i e := by
    pointwise []
    exact N.v 1 i e

theorem reads2 : Reads (k0_pay12 (k0_pay6 x5 x0)) (k0_pay16 (bAll x5 x0))
    (k0_pay20 (View.ld X2 (Rect.unit ![2, 0, 0] ![1, 1, 128] inb_S4x1x128_S1x1x128_2_0_0)))
    (k0_pay72 (View.ld X0 (Rect.unit ![2, 0, 0] ![1, 256, 512] inb_S4x256x512_S1x256x512_2_0_0)))
    (k0_pay76 (View.ld X1 (Rect.unit ![2, 0, 0] ![1, 1, 256] inb_S4x1x256_S1x1x256_2_0_0)))
    (View.ld x1 (Rect.unit ![0, 0, 512] ![1, 256, 256] inb_S1x256x1024_S1x256x256_0_0_512))
    (View.ld x2 (Rect.unit ![0, 0, 512] ![1, 256, 256] inb_S1x256x1024_S1x256x256_0_0_512))
    (View.ld x3 (Rect.unit ![0, 0, 1024] ![1, 256, 512] inb_S1x256x2048_S1x256x512_0_0_1024)) (σ 2) T where
  b j := by
    pointwise [k0_pay16]
    exact N.bl_at 2 j
  l j := by
    pointwise [k0_pay12]
    exact N.li_at 2 j
  m := by
    pointwise [k0_pay20]
    exact N.m 2 0
  C d e := by
    pointwise [k0_pay72]
    exact N.C 2 d e
  n d := by
    pointwise [k0_pay76]
    exact N.n 2 d
  q i d := by
    pointwise []
    exact N.q 2 i d
  k i d := by
    pointwise []
    exact N.k 2 i d
  v i e := by
    pointwise []
    exact N.v 2 i e

theorem reads3 : Reads (k0_pay13 (k0_pay6 x5 x0)) (k0_pay17 (bAll x5 x0))
    (k0_pay21 (View.ld X2 (Rect.unit ![3, 0, 0] ![1, 1, 128] inb_S4x1x128_S1x1x128_3_0_0)))
    (k0_pay73 (View.ld X0 (Rect.unit ![3, 0, 0] ![1, 256, 512] inb_S4x256x512_S1x256x512_3_0_0)))
    (k0_pay77 (View.ld X1 (Rect.unit ![3, 0, 0] ![1, 1, 256] inb_S4x1x256_S1x1x256_3_0_0)))
    (View.ld x1 (Rect.unit ![0, 0, 768] ![1, 256, 256] inb_S1x256x1024_S1x256x256_0_0_768))
    (View.ld x2 (Rect.unit ![0, 0, 768] ![1, 256, 256] inb_S1x256x1024_S1x256x256_0_0_768))
    (View.ld x3 (Rect.unit ![0, 0, 1536] ![1, 256, 512] inb_S1x256x2048_S1x256x512_0_0_1536)) (σ 3) T where
  b j := by
    pointwise [k0_pay17]
    exact N.bl_at 3 j
  l j := by
    pointwise [k0_pay13]
    exact N.li_at 3 j
  m := by
    pointwise [k0_pay21]
    exact N.m 3 0
  C d e := by
    pointwise [k0_pay73]
    exact N.C 3 d e
  n d := by
    pointwise [k0_pay77]
    exact N.n 3 d
  q i d := by
    pointwise []
    exact N.q 3 i d
  k i d := by
    pointwise []
    exact N.k 3 i d
  v i e := by
    pointwise []
    exact N.v 3 i e

end Cert.KernelIdeal.Block
end
-- ==== Proof.Points.lean ====
module

public import proofs.«01_k».proof.Proof.Block
public import Idealize.ShloMosaic.Lib.Pipeline.ValueKit
public import Idealize.ShloMosaic.Lib.Pipeline.ReadBack
@[expose] public section
set_option maxRecDepth 16384
noncomputable section
namespace Cert.KernelIdeal.Points
open Cert.KernelIdeal Cert.KernelIdeal.Gen Idealize.ShloMosaic Idealize.ShloMosaic.TcCoe Idealize.SL.Sem
open Cert.Mlstm Cert.KernelIdeal.Head Cert.KernelIdeal.Scan Cert.KernelIdeal.Block
set_option maxHeartbeats 2000000

/-- At an index the later stores hold, what the earlier ones left is not read. -/
theorem canon_drop {Val : EltTy → Type} {S : Shape} {e : EltTy} [∀ e, Nonempty (Val e)] (L L' : List (View.Piece Val S e)) (y : S.Idx)
    (h : ∃ p ∈ L, y ∈ p.1.set) : View.canon (L ++ L') y = View.canon L y := by
  induction L with
  | nil => obtain ⟨p, hp, _⟩ := h; simp at hp
  | cons p L ih =>
    by_cases hm : y ∈ p.1.set
    · obtain ⟨x, rfl⟩ := p.1.exists_idx_of_mem hm
      obtain ⟨r, w⟩ := p
      exact (View.canon_cons_emb r w (L ++ L') x).trans (View.canon_cons_emb r w L x).symm
    · rw [List.cons_append, View.canon_cons_of_not_mem _ _ hm, View.canon_cons_of_not_mem _ _ hm]
      obtain ⟨q, hq, hy⟩ := h
      rcases List.mem_cons.mp hq with rfl | hq
      · exact absurd hy hm
      · exact ih ⟨q, hq, hy⟩

theorem idx_one {a b : ℕ} (x : (⟨3, ![1, a, b]⟩ : Shape).Idx) : ∃ (i : Fin a) (j : Fin b), x = ix3 0 i j := by
  have h : (show Fin 1 from x 0) = 0 := Subsingleton.elim (α := Fin 1) _ _
  refine ⟨x 1, x 2, (eq_ix3 x).trans ?_⟩
  exact congrArg (fun k : Fin 1 => ix3 k (x 1) (x 2)) h

theorem idx_one_one {a : ℕ} (x : (⟨3, ![1, 1, a]⟩ : Shape).Idx) : ∃ i : Fin a, x = ix3 0 0 i := by
  obtain ⟨j, i, rfl⟩ := idx_one x
  obtain rfl : j = 0 := Subsingleton.elim _ _
  exact ⟨i, rfl⟩

theorem out0_A_8_at (c : Dev nD) (i : grid0.Coords) (arg2 : Memref sig .tc .vmem S8x1 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x8x256 .f32) (harg7 : arg7.IsWhole) (arg8 : Memref sig .tc .vmem S1x2048 .f32) (harg8 : arg8.IsWhole) (arg9 : Memref sig .tc .vmem S1x128x11008 .f32) (harg9 : arg9.IsWhole) (arg10 : Memref sig .tc .vmem S1x256x2048 .bf16) (harg10 : arg10.IsWhole) (arg11 : Memref sig .tc .vmem S128x11008 .bf16) (harg11 : arg11.IsWhole) (arg12 : Memref sig .tc .vmem S4x256x512 .f32) (harg12 : arg12.IsWhole) (arg13 : Memref sig .tc .vmem S4x1x256 .f32) (harg13 : arg13.IsWhole) (arg14 : Memref sig .tc .vmem S4x1x128 .f32) (harg14 : arg14.IsWhole) (hc0 : cond0_0 i)
    (x0 : Vec Ideal S8x1 .f32) (x1 : Vec Ideal S1x256x1024 .bf16) (x2 : Vec Ideal S1x256x1024 .bf16) (x3 : Vec Ideal S1x256x2048 .bf16) (x4 : Vec Ideal S1x256x2048 .bf16) (x5 : Vec Ideal S1x8x256 .f32) (x6 : Vec Ideal S1x2048 .f32) (x7 : Vec Ideal S1x128x11008 .f32) {σ : Fin 4 → Stream} {T : ℕ}
    (N : Holds x0 x1 x2 x3 x5 (k0_pay3 (F := Ideal)) (k0_pay4 (F := Ideal)) (k0_pay5 (F := Ideal)) σ T) (h : Fin 4) (r : Fin 256) (e : Fin 512) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 r ⟨512 * h.val + e.val, by omega⟩)
      = outVal (σ h) (T + r.val) e (x4 (ix3 0 r ⟨512 * h.val + e.val, by omega⟩)) (x6 (ix2 0 ⟨512 * h.val + e.val, by omega⟩)) := by
  frame_open
  simp (disch := decide) only [↓ View.readCov_skip, ↓ View.readCov_cons_toLoadRect, ↓ View.readCov_fill]
  frame_out
  canon_tiles x hx
  · obtain ⟨i', e', rfl⟩ := idx_one x
    have h1 : r.val = i'.val := hx1
    have h2 : 512 * h.val + e.val = 1536 + e'.val := hx2
    obtain rfl : h = 3 := Fin.ext (by show h.val = 3; omega)
    obtain rfl : i' = r := Fin.ext h1.symm
    obtain rfl : e' = e := Fin.ext (by have h2' : 512 * 3 + e.val = 1536 + e'.val := h2; omega)
    refine (out_at _ _ (reads3 N) i' e').trans ?_
    pointwise []
  · obtain ⟨i', e', rfl⟩ := idx_one x
    have h1 : r.val = i'.val := hx1
    have h2 : 512 * h.val + e.val = 1024 + e'.val := hx2
    obtain rfl : h = 2 := Fin.ext (by show h.val = 2; omega)
    obtain rfl : i' = r := Fin.ext h1.symm
    obtain rfl : e' = e := Fin.ext (by have h2' : 512 * 2 + e.val = 1024 + e'.val := h2; omega)
    refine (out_at _ _ (reads2 N) i' e').trans ?_
    pointwise []
  · obtain ⟨i', e', rfl⟩ := idx_one x
    have h1 : r.val = i'.val := hx1
    have h2 : 512 * h.val + e.val = 512 + e'.val := hx2
    obtain rfl : h = 1 := Fin.ext (by show h.val = 1; omega)
    obtain rfl : i' = r := Fin.ext h1.symm
    obtain rfl : e' = e := Fin.ext (by have h2' : 512 * 1 + e.val = 512 + e'.val := h2; omega)
    refine (out_at _ _ (reads1 N) i' e').trans ?_
    pointwise []
  · obtain ⟨i', e', rfl⟩ := idx_one x
    have h1 : r.val = i'.val := hx1
    have h2 : 512 * h.val + e.val = 0 + e'.val := Eq.trans hx2 (Nat.zero_add _).symm
    obtain rfl : h = 0 := Fin.ext (by show h.val = 0; omega)
    obtain rfl : i' = r := Fin.ext h1.symm
    obtain rfl : e' = e := Fin.ext (by have h2' : 512 * 0 + e.val = 0 + e'.val := h2; omega)
    refine (out_at _ _ (reads0 N) i' e').trans ?_
    pointwise []

theorem sout0_A_0_at (c : Dev nD) (i : grid0.Coords) (arg2 : Memref sig .tc .vmem S8x1 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x8x256 .f32) (harg7 : arg7.IsWhole) (arg8 : Memref sig .tc .vmem S1x2048 .f32) (harg8 : arg8.IsWhole) (arg9 : Memref sig .tc .vmem S1x128x11008 .f32) (harg9 : arg9.IsWhole) (arg10 : Memref sig .tc .vmem S1x256x2048 .bf16) (harg10 : arg10.IsWhole) (arg11 : Memref sig .tc .vmem S128x11008 .bf16) (harg11 : arg11.IsWhole) (arg12 : Memref sig .tc .vmem S4x256x512 .f32) (harg12 : arg12.IsWhole) (arg13 : Memref sig .tc .vmem S4x1x256 .f32) (harg13 : arg13.IsWhole) (arg14 : Memref sig .tc .vmem S4x1x128 .f32) (harg14 : arg14.IsWhole) (hc0 : cond0_0 i)
    (x0 : Vec Ideal S8x1 .f32) (x1 : Vec Ideal S1x256x1024 .bf16) (x2 : Vec Ideal S1x256x1024 .bf16) (x3 : Vec Ideal S1x256x2048 .bf16) (x4 : Vec Ideal S1x256x2048 .bf16) (x5 : Vec Ideal S1x8x256 .f32) (x6 : Vec Ideal S1x2048 .f32) (x7 : Vec Ideal S1x128x11008 .f32) {σ : Fin 4 → Stream} {T : ℕ}
    (N : Holds x0 x1 x2 x3 x5 (k0_pay3 (F := Ideal)) (k0_pay4 (F := Ideal)) (k0_pay5 (F := Ideal)) σ T) (h : Fin 4) (d : Fin 256) (e : Fin 512) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 h d e) = (((σ h).C (T + 256) d e : ℝ) : EReal) := by
  frame_open
  simp (disch := decide) only [↓ View.readCov_skip, ↓ View.readCov_cons_toLoadRect, ↓ View.readCov_fill]
  frame_out
  refine (canon_drop [_, _, _, _] [_] _ (View.cover_of_tiled_head _ _ _ (by rfl) _)).trans ?_
  canon_tiles x hx
  · obtain ⟨i', e', rfl⟩ := idx_one x
    obtain rfl : h = 3 := Fin.ext hx0
    obtain rfl : i' = d := Fin.ext (Eq.symm hx1)
    obtain rfl : e' = e := Fin.ext (Eq.symm hx2)
    exact (C_at (reads3 N) i' e')
  · obtain ⟨i', e', rfl⟩ := idx_one x
    obtain rfl : h = 2 := Fin.ext hx0
    obtain rfl : i' = d := Fin.ext (Eq.symm hx1)
    obtain rfl : e' = e := Fin.ext (Eq.symm hx2)
    exact (C_at (reads2 N) i' e')
  · obtain ⟨i', e', rfl⟩ := idx_one x
    obtain rfl : h = 1 := Fin.ext hx0
    obtain rfl : i' = d := Fin.ext (Eq.symm hx1)
    obtain rfl : e' = e := Fin.ext (Eq.symm hx2)
    exact (C_at (reads1 N) i' e')
  · obtain ⟨i', e', rfl⟩ := idx_one x
    obtain rfl : h = 0 := Fin.ext hx0
    obtain rfl : i' = d := Fin.ext (Eq.symm hx1)
    obtain rfl : e' = e := Fin.ext (Eq.symm hx2)
    exact (C_at (reads0 N) i' e')

theorem sout0_A_1_at (c : Dev nD) (i : grid0.Coords) (arg2 : Memref sig .tc .vmem S8x1 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x8x256 .f32) (harg7 : arg7.IsWhole) (arg8 : Memref sig .tc .vmem S1x2048 .f32) (harg8 : arg8.IsWhole) (arg9 : Memref sig .tc .vmem S1x128x11008 .f32) (harg9 : arg9.IsWhole) (arg10 : Memref sig .tc .vmem S1x256x2048 .bf16) (harg10 : arg10.IsWhole) (arg11 : Memref sig .tc .vmem S128x11008 .bf16) (harg11 : arg11.IsWhole) (arg12 : Memref sig .tc .vmem S4x256x512 .f32) (harg12 : arg12.IsWhole) (arg13 : Memref sig .tc .vmem S4x1x256 .f32) (harg13 : arg13.IsWhole) (arg14 : Memref sig .tc .vmem S4x1x128 .f32) (harg14 : arg14.IsWhole) (hc0 : cond0_0 i)
    (x0 : Vec Ideal S8x1 .f32) (x1 : Vec Ideal S1x256x1024 .bf16) (x2 : Vec Ideal S1x256x1024 .bf16) (x3 : Vec Ideal S1x256x2048 .bf16) (x4 : Vec Ideal S1x256x2048 .bf16) (x5 : Vec Ideal S1x8x256 .f32) (x6 : Vec Ideal S1x2048 .f32) (x7 : Vec Ideal S1x128x11008 .f32) {σ : Fin 4 → Stream} {T : ℕ}
    (N : Holds x0 x1 x2 x3 x5 (k0_pay3 (F := Ideal)) (k0_pay4 (F := Ideal)) (k0_pay5 (F := Ideal)) σ T) (h : Fin 4) (d : Fin 256) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 h 0 d) = (((σ h).n (T + 256) d : ℝ) : EReal) := by
  frame_open
  simp (disch := decide) only [↓ View.readCov_skip, ↓ View.readCov_cons_toLoadRect, ↓ View.readCov_fill]
  frame_out
  refine (canon_drop [_, _, _, _] [_] _ (View.cover_of_tiled_head _ _ _ (by rfl) _)).trans ?_
  canon_tiles x hx
  · obtain ⟨i', rfl⟩ := idx_one_one x
    obtain rfl : h = 3 := Fin.ext hx0
    obtain rfl : i' = d := Fin.ext (Eq.symm hx2)
    exact (n_at (reads3 N) i')
  · obtain ⟨i', rfl⟩ := idx_one_one x
    obtain rfl : h = 2 := Fin.ext hx0
    obtain rfl : i' = d := Fin.ext (Eq.symm hx2)
    exact (n_at (reads2 N) i')
  · obtain ⟨i', rfl⟩ := idx_one_one x
    obtain rfl : h = 1 := Fin.ext hx0
    obtain rfl : i' = d := Fin.ext (Eq.symm hx2)
    exact (n_at (reads1 N) i')
  · obtain ⟨i', rfl⟩ := idx_one_one x
    obtain rfl : h = 0 := Fin.ext hx0
    obtain rfl : i' = d := Fin.ext (Eq.symm hx2)
    exact (n_at (reads0 N) i')

theorem sout0_A_2_at (c : Dev nD) (i : grid0.Coords) (arg2 : Memref sig .tc .vmem S8x1 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x8x256 .f32) (harg7 : arg7.IsWhole) (arg8 : Memref sig .tc .vmem S1x2048 .f32) (harg8 : arg8.IsWhole) (arg9 : Memref sig .tc .vmem S1x128x11008 .f32) (harg9 : arg9.IsWhole) (arg10 : Memref sig .tc .vmem S1x256x2048 .bf16) (harg10 : arg10.IsWhole) (arg11 : Memref sig .tc .vmem S128x11008 .bf16) (harg11 : arg11.IsWhole) (arg12 : Memref sig .tc .vmem S4x256x512 .f32) (harg12 : arg12.IsWhole) (arg13 : Memref sig .tc .vmem S4x1x256 .f32) (harg13 : arg13.IsWhole) (arg14 : Memref sig .tc .vmem S4x1x128 .f32) (harg14 : arg14.IsWhole) (hc0 : cond0_0 i)
    (x0 : Vec Ideal S8x1 .f32) (x1 : Vec Ideal S1x256x1024 .bf16) (x2 : Vec Ideal S1x256x1024 .bf16) (x3 : Vec Ideal S1x256x2048 .bf16) (x4 : Vec Ideal S1x256x2048 .bf16) (x5 : Vec Ideal S1x8x256 .f32) (x6 : Vec Ideal S1x2048 .f32) (x7 : Vec Ideal S1x128x11008 .f32) {σ : Fin 4 → Stream} {T : ℕ}
    (N : Holds x0 x1 x2 x3 x5 (k0_pay3 (F := Ideal)) (k0_pay4 (F := Ideal)) (k0_pay5 (F := Ideal)) σ T) (h : Fin 4) (d : Fin 128) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 h 0 d) = (((σ h).m (T + 256) : ℝ) : EReal) := by
  frame_open
  simp (disch := decide) only [↓ View.readCov_skip, ↓ View.readCov_cons_toLoadRect, ↓ View.readCov_fill]
  frame_out
  refine (canon_drop [_, _, _, _] [_] _ (View.cover_of_tiled_head _ _ _ (by rfl) _)).trans ?_
  canon_tiles x hx
  · obtain ⟨i', rfl⟩ := idx_one_one x
    obtain rfl : h = 3 := Fin.ext hx0
    obtain rfl : i' = d := Fin.ext (Eq.symm hx2)
    exact (m_at (reads3 N) i')
  · obtain ⟨i', rfl⟩ := idx_one_one x
    obtain rfl : h = 2 := Fin.ext hx0
    obtain rfl : i' = d := Fin.ext (Eq.symm hx2)
    exact (m_at (reads2 N) i')
  · obtain ⟨i', rfl⟩ := idx_one_one x
    obtain rfl : h = 1 := Fin.ext hx0
    obtain rfl : i' = d := Fin.ext (Eq.symm hx2)
    exact (m_at (reads1 N) i')
  · obtain ⟨i', rfl⟩ := idx_one_one x
    obtain rfl : h = 0 := Fin.ext hx0
    obtain rfl : i' = d := Fin.ext (Eq.symm hx2)
    exact (m_at (reads0 N) i')

theorem out0_B_8_at (c : Dev nD) (i : grid0.Coords) (arg2 : Memref sig .tc .vmem S8x1 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x8x256 .f32) (harg7 : arg7.IsWhole) (arg8 : Memref sig .tc .vmem S1x2048 .f32) (harg8 : arg8.IsWhole) (arg9 : Memref sig .tc .vmem S1x128x11008 .f32) (harg9 : arg9.IsWhole) (arg10 : Memref sig .tc .vmem S1x256x2048 .bf16) (harg10 : arg10.IsWhole) (arg11 : Memref sig .tc .vmem S128x11008 .bf16) (harg11 : arg11.IsWhole) (arg12 : Memref sig .tc .vmem S4x256x512 .f32) (harg12 : arg12.IsWhole) (arg13 : Memref sig .tc .vmem S4x1x256 .f32) (harg13 : arg13.IsWhole) (arg14 : Memref sig .tc .vmem S4x1x128 .f32) (harg14 : arg14.IsWhole) (hc0 : ¬cond0_0 i)
    (x0 : Vec Ideal S8x1 .f32) (x1 : Vec Ideal S1x256x1024 .bf16) (x2 : Vec Ideal S1x256x1024 .bf16) (x3 : Vec Ideal S1x256x2048 .bf16) (x4 : Vec Ideal S1x256x2048 .bf16) (x5 : Vec Ideal S1x8x256 .f32) (x6 : Vec Ideal S1x2048 .f32) (x7 : Vec Ideal S1x128x11008 .f32) (xs0 : Vec Ideal S4x256x512 .f32) (xs1 : Vec Ideal S4x1x256 .f32) (xs2 : Vec Ideal S4x1x128 .f32) {σ : Fin 4 → Stream} {T : ℕ}
    (N : Holds x0 x1 x2 x3 x5 xs0 xs1 xs2 σ T) (h : Fin 4) (r : Fin 256) (e : Fin 512) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 (ix3 0 r ⟨512 * h.val + e.val, by omega⟩)
      = outVal (σ h) (T + r.val) e (x4 (ix3 0 r ⟨512 * h.val + e.val, by omega⟩)) (x6 (ix2 0 ⟨512 * h.val + e.val, by omega⟩)) := by
  frame_open
  simp (disch := decide) only [↓ View.readCov_skip, ↓ View.readCov_cons_toLoadRect, ↓ View.readCov_fill]
  frame_out
  canon_tiles x hx
  · obtain ⟨i', e', rfl⟩ := idx_one x
    have h1 : r.val = i'.val := hx1
    have h2 : 512 * h.val + e.val = 1536 + e'.val := hx2
    obtain rfl : h = 3 := Fin.ext (by show h.val = 3; omega)
    obtain rfl : i' = r := Fin.ext h1.symm
    obtain rfl : e' = e := Fin.ext (by have h2' : 512 * 3 + e.val = 1536 + e'.val := h2; omega)
    refine (out_at _ _ (reads3 N) i' e').trans ?_
    pointwise []
  · obtain ⟨i', e', rfl⟩ := idx_one x
    have h1 : r.val = i'.val := hx1
    have h2 : 512 * h.val + e.val = 1024 + e'.val := hx2
    obtain rfl : h = 2 := Fin.ext (by show h.val = 2; omega)
    obtain rfl : i' = r := Fin.ext h1.symm
    obtain rfl : e' = e := Fin.ext (by have h2' : 512 * 2 + e.val = 1024 + e'.val := h2; omega)
    refine (out_at _ _ (reads2 N) i' e').trans ?_
    pointwise []
  · obtain ⟨i', e', rfl⟩ := idx_one x
    have h1 : r.val = i'.val := hx1
    have h2 : 512 * h.val + e.val = 512 + e'.val := hx2
    obtain rfl : h = 1 := Fin.ext (by show h.val = 1; omega)
    obtain rfl : i' = r := Fin.ext h1.symm
    obtain rfl : e' = e := Fin.ext (by have h2' : 512 * 1 + e.val = 512 + e'.val := h2; omega)
    refine (out_at _ _ (reads1 N) i' e').trans ?_
    pointwise []
  · obtain ⟨i', e', rfl⟩ := idx_one x
    have h1 : r.val = i'.val := hx1
    have h2 : 512 * h.val + e.val = 0 + e'.val := Eq.trans hx2 (Nat.zero_add _).symm
    obtain rfl : h = 0 := Fin.ext (by show h.val = 0; omega)
    obtain rfl : i' = r := Fin.ext h1.symm
    obtain rfl : e' = e := Fin.ext (by have h2' : 512 * 0 + e.val = 0 + e'.val := h2; omega)
    refine (out_at _ _ (reads0 N) i' e').trans ?_
    pointwise []

theorem sout0_B_0_at (c : Dev nD) (i : grid0.Coords) (arg2 : Memref sig .tc .vmem S8x1 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x8x256 .f32) (harg7 : arg7.IsWhole) (arg8 : Memref sig .tc .vmem S1x2048 .f32) (harg8 : arg8.IsWhole) (arg9 : Memref sig .tc .vmem S1x128x11008 .f32) (harg9 : arg9.IsWhole) (arg10 : Memref sig .tc .vmem S1x256x2048 .bf16) (harg10 : arg10.IsWhole) (arg11 : Memref sig .tc .vmem S128x11008 .bf16) (harg11 : arg11.IsWhole) (arg12 : Memref sig .tc .vmem S4x256x512 .f32) (harg12 : arg12.IsWhole) (arg13 : Memref sig .tc .vmem S4x1x256 .f32) (harg13 : arg13.IsWhole) (arg14 : Memref sig .tc .vmem S4x1x128 .f32) (harg14 : arg14.IsWhole) (hc0 : ¬cond0_0 i)
    (x0 : Vec Ideal S8x1 .f32) (x1 : Vec Ideal S1x256x1024 .bf16) (x2 : Vec Ideal S1x256x1024 .bf16) (x3 : Vec Ideal S1x256x2048 .bf16) (x4 : Vec Ideal S1x256x2048 .bf16) (x5 : Vec Ideal S1x8x256 .f32) (x6 : Vec Ideal S1x2048 .f32) (x7 : Vec Ideal S1x128x11008 .f32) (xs0 : Vec Ideal S4x256x512 .f32) (xs1 : Vec Ideal S4x1x256 .f32) (xs2 : Vec Ideal S4x1x128 .f32) {σ : Fin 4 → Stream} {T : ℕ}
    (N : Holds x0 x1 x2 x3 x5 xs0 xs1 xs2 σ T) (h : Fin 4) (d : Fin 256) (e : Fin 512) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 (ix3 h d e) = (((σ h).C (T + 256) d e : ℝ) : EReal) := by
  frame_open
  simp (disch := decide) only [↓ View.readCov_skip, ↓ View.readCov_cons_toLoadRect, ↓ View.readCov_fill]
  frame_out
  canon_tiles x hx
  · obtain ⟨i', e', rfl⟩ := idx_one x
    obtain rfl : h = 3 := Fin.ext hx0
    obtain rfl : i' = d := Fin.ext (Eq.symm hx1)
    obtain rfl : e' = e := Fin.ext (Eq.symm hx2)
    exact (C_at (reads3 N) i' e')
  · obtain ⟨i', e', rfl⟩ := idx_one x
    obtain rfl : h = 2 := Fin.ext hx0
    obtain rfl : i' = d := Fin.ext (Eq.symm hx1)
    obtain rfl : e' = e := Fin.ext (Eq.symm hx2)
    exact (C_at (reads2 N) i' e')
  · obtain ⟨i', e', rfl⟩ := idx_one x
    obtain rfl : h = 1 := Fin.ext hx0
    obtain rfl : i' = d := Fin.ext (Eq.symm hx1)
    obtain rfl : e' = e := Fin.ext (Eq.symm hx2)
    exact (C_at (reads1 N) i' e')
  · obtain ⟨i', e', rfl⟩ := idx_one x
    obtain rfl : h = 0 := Fin.ext hx0
    obtain rfl : i' = d := Fin.ext (Eq.symm hx1)
    obtain rfl : e' = e := Fin.ext (Eq.symm hx2)
    exact (C_at (reads0 N) i' e')

theorem sout0_B_1_at (c : Dev nD) (i : grid0.Coords) (arg2 : Memref sig .tc .vmem S8x1 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x8x256 .f32) (harg7 : arg7.IsWhole) (arg8 : Memref sig .tc .vmem S1x2048 .f32) (harg8 : arg8.IsWhole) (arg9 : Memref sig .tc .vmem S1x128x11008 .f32) (harg9 : arg9.IsWhole) (arg10 : Memref sig .tc .vmem S1x256x2048 .bf16) (harg10 : arg10.IsWhole) (arg11 : Memref sig .tc .vmem S128x11008 .bf16) (harg11 : arg11.IsWhole) (arg12 : Memref sig .tc .vmem S4x256x512 .f32) (harg12 : arg12.IsWhole) (arg13 : Memref sig .tc .vmem S4x1x256 .f32) (harg13 : arg13.IsWhole) (arg14 : Memref sig .tc .vmem S4x1x128 .f32) (harg14 : arg14.IsWhole) (hc0 : ¬cond0_0 i)
    (x0 : Vec Ideal S8x1 .f32) (x1 : Vec Ideal S1x256x1024 .bf16) (x2 : Vec Ideal S1x256x1024 .bf16) (x3 : Vec Ideal S1x256x2048 .bf16) (x4 : Vec Ideal S1x256x2048 .bf16) (x5 : Vec Ideal S1x8x256 .f32) (x6 : Vec Ideal S1x2048 .f32) (x7 : Vec Ideal S1x128x11008 .f32) (xs0 : Vec Ideal S4x256x512 .f32) (xs1 : Vec Ideal S4x1x256 .f32) (xs2 : Vec Ideal S4x1x128 .f32) {σ : Fin 4 → Stream} {T : ℕ}
    (N : Holds x0 x1 x2 x3 x5 xs0 xs1 xs2 σ T) (h : Fin 4) (d : Fin 256) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 (ix3 h 0 d) = (((σ h).n (T + 256) d : ℝ) : EReal) := by
  frame_open
  simp (disch := decide) only [↓ View.readCov_skip, ↓ View.readCov_cons_toLoadRect, ↓ View.readCov_fill]
  frame_out
  canon_tiles x hx
  · obtain ⟨i', rfl⟩ := idx_one_one x
    obtain rfl : h = 3 := Fin.ext hx0
    obtain rfl : i' = d := Fin.ext (Eq.symm hx2)
    exact (n_at (reads3 N) i')
  · obtain ⟨i', rfl⟩ := idx_one_one x
    obtain rfl : h = 2 := Fin.ext hx0
    obtain rfl : i' = d := Fin.ext (Eq.symm hx2)
    exact (n_at (reads2 N) i')
  · obtain ⟨i', rfl⟩ := idx_one_one x
    obtain rfl : h = 1 := Fin.ext hx0
    obtain rfl : i' = d := Fin.ext (Eq.symm hx2)
    exact (n_at (reads1 N) i')
  · obtain ⟨i', rfl⟩ := idx_one_one x
    obtain rfl : h = 0 := Fin.ext hx0
    obtain rfl : i' = d := Fin.ext (Eq.symm hx2)
    exact (n_at (reads0 N) i')

theorem sout0_B_2_at (c : Dev nD) (i : grid0.Coords) (arg2 : Memref sig .tc .vmem S8x1 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x8x256 .f32) (harg7 : arg7.IsWhole) (arg8 : Memref sig .tc .vmem S1x2048 .f32) (harg8 : arg8.IsWhole) (arg9 : Memref sig .tc .vmem S1x128x11008 .f32) (harg9 : arg9.IsWhole) (arg10 : Memref sig .tc .vmem S1x256x2048 .bf16) (harg10 : arg10.IsWhole) (arg11 : Memref sig .tc .vmem S128x11008 .bf16) (harg11 : arg11.IsWhole) (arg12 : Memref sig .tc .vmem S4x256x512 .f32) (harg12 : arg12.IsWhole) (arg13 : Memref sig .tc .vmem S4x1x256 .f32) (harg13 : arg13.IsWhole) (arg14 : Memref sig .tc .vmem S4x1x128 .f32) (harg14 : arg14.IsWhole) (hc0 : ¬cond0_0 i)
    (x0 : Vec Ideal S8x1 .f32) (x1 : Vec Ideal S1x256x1024 .bf16) (x2 : Vec Ideal S1x256x1024 .bf16) (x3 : Vec Ideal S1x256x2048 .bf16) (x4 : Vec Ideal S1x256x2048 .bf16) (x5 : Vec Ideal S1x8x256 .f32) (x6 : Vec Ideal S1x2048 .f32) (x7 : Vec Ideal S1x128x11008 .f32) (xs0 : Vec Ideal S4x256x512 .f32) (xs1 : Vec Ideal S4x1x256 .f32) (xs2 : Vec Ideal S4x1x128 .f32) {σ : Fin 4 → Stream} {T : ℕ}
    (N : Holds x0 x1 x2 x3 x5 xs0 xs1 xs2 σ T) (h : Fin 4) (d : Fin 128) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 (ix3 h 0 d) = (((σ h).m (T + 256) : ℝ) : EReal) := by
  frame_open
  simp (disch := decide) only [↓ View.readCov_skip, ↓ View.readCov_cons_toLoadRect, ↓ View.readCov_fill]
  frame_out
  canon_tiles x hx
  · obtain ⟨i', rfl⟩ := idx_one_one x
    obtain rfl : h = 3 := Fin.ext hx0
    obtain rfl : i' = d := Fin.ext (Eq.symm hx2)
    exact (m_at (reads3 N) i')
  · obtain ⟨i', rfl⟩ := idx_one_one x
    obtain rfl : h = 2 := Fin.ext hx0
    obtain rfl : i' = d := Fin.ext (Eq.symm hx2)
    exact (m_at (reads2 N) i')
  · obtain ⟨i', rfl⟩ := idx_one_one x
    obtain rfl : h = 1 := Fin.ext hx0
    obtain rfl : i' = d := Fin.ext (Eq.symm hx2)
    exact (m_at (reads1 N) i')
  · obtain ⟨i', rfl⟩ := idx_one_one x
    obtain rfl : h = 0 := Fin.ext hx0
    obtain rfl : i' = d := Fin.ext (Eq.symm hx2)
    exact (m_at (reads0 N) i')

theorem out0_A_9_at (c : Dev nD) (i : grid0.Coords) (arg2 : Memref sig .tc .vmem S8x1 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x8x256 .f32) (harg7 : arg7.IsWhole) (arg8 : Memref sig .tc .vmem S1x2048 .f32) (harg8 : arg8.IsWhole) (arg9 : Memref sig .tc .vmem S1x128x11008 .f32) (harg9 : arg9.IsWhole) (arg10 : Memref sig .tc .vmem S1x256x2048 .bf16) (harg10 : arg10.IsWhole) (arg11 : Memref sig .tc .vmem S128x11008 .bf16) (harg11 : arg11.IsWhole) (arg12 : Memref sig .tc .vmem S4x256x512 .f32) (harg12 : arg12.IsWhole) (arg13 : Memref sig .tc .vmem S4x1x256 .f32) (harg13 : arg13.IsWhole) (arg14 : Memref sig .tc .vmem S4x1x128 .f32) (harg14 : arg14.IsWhole) (hc0 : cond0_0 i)
    (x0 : Vec Ideal S8x1 .f32) (x1 : Vec Ideal S1x256x1024 .bf16) (x2 : Vec Ideal S1x256x1024 .bf16) (x3 : Vec Ideal S1x256x2048 .bf16) (x4 : Vec Ideal S1x256x2048 .bf16) (x5 : Vec Ideal S1x8x256 .f32) (x6 : Vec Ideal S1x2048 .f32) (x7 : Vec Ideal S1x128x11008 .f32) (r : Fin 128) (k : Fin 11008) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r k) = x7 (ix3 0 r k) := by
  frame_open
  frame_out
  pointwise [k0_pay2]

theorem out0_B_9_at (c : Dev nD) (i : grid0.Coords) (arg2 : Memref sig .tc .vmem S8x1 .f32) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x8x256 .f32) (harg7 : arg7.IsWhole) (arg8 : Memref sig .tc .vmem S1x2048 .f32) (harg8 : arg8.IsWhole) (arg9 : Memref sig .tc .vmem S1x128x11008 .f32) (harg9 : arg9.IsWhole) (arg10 : Memref sig .tc .vmem S1x256x2048 .bf16) (harg10 : arg10.IsWhole) (arg11 : Memref sig .tc .vmem S128x11008 .bf16) (harg11 : arg11.IsWhole) (arg12 : Memref sig .tc .vmem S4x256x512 .f32) (harg12 : arg12.IsWhole) (arg13 : Memref sig .tc .vmem S4x1x256 .f32) (harg13 : arg13.IsWhole) (arg14 : Memref sig .tc .vmem S4x1x128 .f32) (harg14 : arg14.IsWhole) (hc0 : ¬cond0_0 i)
    (x0 : Vec Ideal S8x1 .f32) (x1 : Vec Ideal S1x256x1024 .bf16) (x2 : Vec Ideal S1x256x1024 .bf16) (x3 : Vec Ideal S1x256x2048 .bf16) (x4 : Vec Ideal S1x256x2048 .bf16) (x5 : Vec Ideal S1x8x256 .f32) (x6 : Vec Ideal S1x2048 .f32) (x7 : Vec Ideal S1x128x11008 .f32) (xs0 : Vec Ideal S4x256x512 .f32) (xs1 : Vec Ideal S4x1x256 .f32) (xs2 : Vec Ideal S4x1x128 .f32) (r : Fin 128) (k : Fin 11008) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 (ix2 r k) = x7 (ix3 0 r k) := by
  frame_open
  frame_out
  pointwise [k0_pay2]

end Cert.KernelIdeal.Points
end
-- ==== Proof.Streams.lean ====
module

public import proofs.«01_k».proof.Proof.Math
@[expose] public section
noncomputable section
namespace Cert.Mlstm
open Idealize.ShloMosaic

/-- The arguments both programs read, at coordinates: the projections, the gates, their biases, the head weights. -/
structure Args where
  proj : Fin 8192 → Fin 20480 → EReal
  gates : Fin 8192 → Fin 8 → EReal
  bias : Fin 2 → Fin 4 → EReal
  hn : Fin 2048 → EReal

variable (X : Args)

/-- The row of token `t` of batch `b` in the projections. -/
def row (b : Fin 2) (t : ℕ) : Fin 8192 := ⟨(b.val * 4096 + t) % 8192, Nat.mod_lt _ (by omega)⟩

/-- The capped input gate of token `t` of head `h` of batch `b`. -/
def Args.iGate (b : Fin 2) (h : Fin 4) (t : ℕ) : ℝ :=
  capped (Ideal.div (X.gates (row b t) ⟨h.val, by omega⟩ + X.bias 0 h) (Ideal.ofBits .f32 0x41700000#32))

/-- The capped forget gate, before its logarithm of a logistic. -/
def Args.fGate (b : Fin 2) (h : Fin 4) (t : ℕ) : ℝ :=
  capped (Ideal.div (X.gates (row b t) ⟨4 + h.val, by omega⟩ + X.bias 1 h) (Ideal.ofBits .f32 0x41700000#32))

def Args.qRaw (b : Fin 2) (h : Fin 4) (t : ℕ) (d : Fin 256) : EReal := X.proj (row b t) ⟨256 * h.val + d.val, by omega⟩
def Args.kRaw (b : Fin 2) (h : Fin 4) (t : ℕ) (d : Fin 256) : EReal := X.proj (row b t) ⟨1024 + (256 * h.val + d.val), by omega⟩
def Args.vRaw (b : Fin 2) (h : Fin 4) (t : ℕ) (e : Fin 512) : EReal := X.proj (row b t) ⟨2048 + (512 * h.val + e.val), by omega⟩
def Args.oRaw (b : Fin 2) (h : Fin 4) (t : ℕ) (e : Fin 512) : EReal := X.proj (row b t) ⟨4096 + (512 * h.val + e.val), by omega⟩

/-- The stream of head `h` of batch `b`. -/
def Args.stream (b : Fin 2) (h : Fin 4) : Stream where
  lf t := logSig (X.fGate b h t)
  li t := X.iGate b h t
  q t d := (X.qRaw b h t d).toReal / 16
  k t d := (X.kRaw b h t d).toReal
  v t e := (X.vRaw b h t e).toReal

/-- The layer's output from the arguments, at a batch, a token and a column. -/
def outAt (X : Args) (b : Fin 2) (t : Fin 4096) (k : Fin 2048) : EReal :=
  outVal (X.stream b ⟨k.val / 512, by omega⟩) t.val ⟨k.val % 512, by omega⟩
    (X.oRaw b ⟨k.val / 512, by omega⟩ t.val ⟨k.val % 512, by omega⟩) (X.hn k)

/-- Queries, keys and values are finite. -/
def Args.Finite : Prop := ∀ (r : Fin 8192) (c : Fin 20480), c.val < 4096 → ∃ x : ℝ, X.proj r c = (x : EReal)

variable {X}
variable (hX : X.Finite)
include hX

theorem q_coe (b : Fin 2) (h : Fin 4) (t : ℕ) (d : Fin 256) : X.qRaw b h t d = ((16 * (X.stream b h).q t d : ℝ) : EReal) := by
  obtain ⟨x, hx⟩ := hX (row b t) ⟨256 * h.val + d.val, by omega⟩ (by show 256 * h.val + d.val < 4096; omega)
  show _ = ((16 * ((X.qRaw b h t d).toReal / 16) : ℝ) : EReal)
  rw [Args.qRaw, hx, EReal.toReal_coe]; congr 1; ring

theorem k_coe (b : Fin 2) (h : Fin 4) (t : ℕ) (d : Fin 256) : X.kRaw b h t d = (((X.stream b h).k t d : ℝ) : EReal) := by
  obtain ⟨x, hx⟩ := hX (row b t) ⟨1024 + (256 * h.val + d.val), by omega⟩ (by show 1024 + (256 * h.val + d.val) < 4096; omega)
  show _ = (((X.kRaw b h t d).toReal : ℝ) : EReal)
  rw [Args.kRaw, hx, EReal.toReal_coe]

theorem v_coe (b : Fin 2) (h : Fin 4) (t : ℕ) (e : Fin 512) : X.vRaw b h t e = (((X.stream b h).v t e : ℝ) : EReal) := by
  obtain ⟨x, hx⟩ := hX (row b t) ⟨2048 + (512 * h.val + e.val), by omega⟩ (by show 2048 + (512 * h.val + e.val) < 4096; omega)
  show _ = (((X.vRaw b h t e).toReal : ℝ) : EReal)
  rw [Args.vRaw, hx, EReal.toReal_coe]

end Cert.Mlstm
end
-- ==== Proof.KBlocks.lean ====
module

public import proofs.«01_k».proof.Proof.Points
public import proofs.«01_k».proof.Proof.Streams
@[expose] public section
set_option maxRecDepth 16384
noncomputable section
namespace Cert.KernelIdeal.KBlocks
open Cert.KernelIdeal Cert.KernelIdeal.Gen Idealize.ShloMosaic Idealize.ShloMosaic.TcCoe Idealize.SL.Sem
open Cert.Mlstm

variable (m : (ℓ : Loc nD τ sig) → Buf (Elt Ideal) ℓ) (c : Dev nD)

/-- The kernel's arguments at coordinates. -/
def args : Args where
  proj r k := (m ((c : Thread nD τ).loc main_arg0) : Vec Ideal S8192x20480 .bf16) (ix2 r k)
  gates r k := (m ((c : Thread nD τ).loc main_arg1) : Vec Ideal S8192x8 .f32) (ix2 r k)
  bias r k := (m ((c : Thread nD τ).loc main_arg2) : Vec Ideal S2x4 .f32) (ix2 r k)
  hn r := (m ((c : Thread nD τ).loc main_arg3) : Vec Ideal S2048 .f32) (ix1 r)

/-- The batch of a grid point. -/
def bat (t : Fin cfg0.N) : Fin 2 := ⟨t.val / 16, by have := t.isLt; have h : cfg0.N = 32 := N_0; omega⟩

theorem idx : ∀ t : Fin grid0.N, win0_0.index t = ![0, 0] ∧ win0_1.index t = ![t.val / 16, t.val % 16, 0] ∧
    win0_2.index t = ![t.val / 16, t.val % 16, 1] ∧ win0_3.index t = ![t.val / 16, t.val % 16, 1] ∧
    win0_4.index t = ![t.val / 16, t.val % 16, 2] ∧ win0_5.index t = ![t.val / 16, 0, t.val % 16] ∧
    win0_6.index t = ![0, 0] ∧ win0_7.index t = ![0, t.val, 0] ∧ win0_8.index t = ![t.val / 16, t.val % 16, 0] ∧
    win0_9.index t = ![t.val, 0] := by
  decide +kernel

theorem q_blk (t : Fin cfg0.N) (h : Fin 4) (i d : Fin 256) :
    iblk m c 1 t (ix3 0 i ⟨256 * h.val + d.val, by omega⟩) = (args m c).qRaw (bat t) h (256 * (t.val % 16) + i.val) d := by
  have hi := idx t
  have ht : t.val < 32 := t.isLt
  unfold Args.qRaw args row bat
  dsimp only
  blk_ext! [iblk, V, hi]

theorem k_blk (t : Fin cfg0.N) (h : Fin 4) (i d : Fin 256) :
    iblk m c 2 t (ix3 0 i ⟨256 * h.val + d.val, by omega⟩) = (args m c).kRaw (bat t) h (256 * (t.val % 16) + i.val) d := by
  have hi := idx t
  have ht : t.val < 32 := t.isLt
  unfold Args.kRaw args row bat
  dsimp only
  blk_ext! [iblk, V, hi]

theorem v_blk (t : Fin cfg0.N) (h : Fin 4) (i : Fin 256) (e : Fin 512) :
    iblk m c 3 t (ix3 0 i ⟨512 * h.val + e.val, by omega⟩) = (args m c).vRaw (bat t) h (256 * (t.val % 16) + i.val) e := by
  have hi := idx t
  have ht : t.val < 32 := t.isLt
  unfold Args.vRaw args row bat
  dsimp only
  blk_ext! [iblk, V, hi]

theorem o_blk (t : Fin cfg0.N) (h : Fin 4) (i : Fin 256) (e : Fin 512) :
    iblk m c 4 t (ix3 0 i ⟨512 * h.val + e.val, by omega⟩) = (args m c).oRaw (bat t) h (256 * (t.val % 16) + i.val) e := by
  have hi := idx t
  have ht : t.val < 32 := t.isLt
  unfold Args.oRaw args row bat
  dsimp only
  blk_ext! [iblk, V, hi]

theorem gate_blk (t : Fin cfg0.N) (h : Fin 8) (i : Fin 256) :
    iblk m c 5 t (ix3 0 h i) = (args m c).gates (row (bat t) (256 * (t.val % 16) + i.val)) h := by
  have hi := idx t
  have ht : t.val < 32 := t.isLt
  unfold args row bat
  dsimp only
  blk_ext! [iblk, V, hi]

theorem bias_blk (t : Fin cfg0.N) (h : Fin 8) :
    iblk m c 0 t (ix2 h 0) = (args m c).bias ⟨h.val / 4, by omega⟩ ⟨h.val % 4, by omega⟩ := by
  have hi := idx t
  unfold args
  dsimp only
  blk_ext! [iblk, V, hi]

theorem hn_blk (t : Fin cfg0.N) (h : Fin 4) (e : Fin 512) :
    iblk m c 6 t (ix2 0 ⟨512 * h.val + e.val, by omega⟩) = (args m c).hn ⟨512 * h.val + e.val, by omega⟩ := by
  have hi := idx t
  unfold args
  dsimp only
  blk_ext! [iblk, V, hi]

theorem w_blk (t : Fin cfg0.N) (i : Fin 128) (k : Fin 11008) :
    iblk m c 7 t (ix3 0 i k) = (m ((c : Thread nD τ).loc main_arg4) : Vec Ideal S1x4096x11008 .f32)
      (ix3 0 ⟨t.val * 128 + i.val, by have : t.val < 32 := t.isLt; omega⟩ k) := by
  have hi := idx t
  blk_ext! [iblk, V, hi]

theorem gi_blk (t : Fin cfg0.N) (h : Fin 4) (j : Fin 256) : ((args m c).stream (bat t) h).li (256 * (t.val % 16) + j.val)
    = capped (Scan.gateArg (iblk m c 5 t) (iblk m c 0 t) ⟨h.val, by omega⟩ j) := by
  rw [Scan.gateArg, gate_blk, bias_blk]
  fin_cases h <;> rfl

theorem gf_blk (t : Fin cfg0.N) (h : Fin 4) (j : Fin 256) : ((args m c).stream (bat t) h).lf (256 * (t.val % 16) + j.val)
    = logSig (capped (Scan.gateArg (iblk m c 5 t) (iblk m c 0 t) ⟨4 + h.val, by omega⟩ j)) := by
  rw [Scan.gateArg, gate_blk, bias_blk]
  fin_cases h <;> rfl

attribute [local irreducible] outsAt0 out0_A_8 out0_B_8 out0_A_9 out0_B_9 sout0_A_0 sout0_A_1 sout0_A_2 sout0_B_0 sout0_B_1 sout0_B_2

variable {m c} (hX : (args m c).Finite)
include hX

/-- What a point reads, when its carried memory, normalizer and stabilizer are those of its first token. -/
theorem holds_of (t : Fin cfg0.N) (X0 : Vec Ideal S4x256x512 .f32) (X1 : Vec Ideal S4x1x256 .f32) (X2 : Vec Ideal S4x1x128 .f32)
    (hC : ∀ (h : Fin 4) d e, X0 (ix3 h d e) = ((((args m c).stream (bat t) h).C (256 * (t.val % 16)) d e : ℝ) : EReal))
    (hn : ∀ (h : Fin 4) d, X1 (ix3 h 0 d) = ((((args m c).stream (bat t) h).n (256 * (t.val % 16)) d : ℝ) : EReal))
    (hm : ∀ (h : Fin 4) (d : Fin 128), X2 (ix3 h 0 d) = ((((args m c).stream (bat t) h).m (256 * (t.val % 16)) : ℝ) : EReal)) :
    Block.Holds (iblk m c 0 t) (iblk m c 1 t) (iblk m c 2 t) (iblk m c 3 t) (iblk m c 5 t) X0 X1 X2
      (fun h => (args m c).stream (bat t) h) (256 * (t.val % 16)) where
  gi := gi_blk m c t
  gf := gf_blk m c t
  q h i d := (q_blk m c t h i d).trans (q_coe hX _ _ _ _)
  k h i d := (k_blk m c t h i d).trans (k_coe hX _ _ _ _)
  v h i e := (v_blk m c t h i e).trans (v_coe hX _ _ _ _)
  C := hC
  n := hn
  m := hm

/-- At a batch's first chunk the kernel starts from zero. -/
theorem holds_first (t : Fin cfg0.N) (h0 : t.val % 16 = 0) :
    Block.Holds (iblk m c 0 t) (iblk m c 1 t) (iblk m c 2 t) (iblk m c 3 t) (iblk m c 5 t)
      (k0_pay3 (F := Ideal)) (k0_pay4 (F := Ideal)) (k0_pay5 (F := Ideal))
      (fun h => (args m c).stream (bat t) h) (256 * (t.val % 16)) := by
  refine holds_of hX t _ _ _ (fun h d e => ?_) (fun h d => ?_) (fun h d => ?_)
  · pointwise [k0_pay3]
    rw [h0]; simp [Stream.C]
  · pointwise [k0_pay4]
    rw [h0]; simp [Stream.n]
  · pointwise [k0_pay5]
    rw [h0]; simp [Stream.m, Stream.B, Stream.A]

/-- After a point the kernel carries the memory, normalizer and stabilizer of the token after its chunk. -/
structure After (t : Fin cfg0.N) : Prop where
  mem : ∀ (h : Fin 4) d e, (outsAt0 m c t.val t.isLt).2.2.1 (ix3 h d e)
    = ((((args m c).stream (bat t) h).C (256 * (t.val % 16) + 256) d e : ℝ) : EReal)
  nrm : ∀ (h : Fin 4) d, (outsAt0 m c t.val t.isLt).2.2.2.1 (ix3 h 0 d)
    = ((((args m c).stream (bat t) h).n (256 * (t.val % 16) + 256) d : ℝ) : EReal)
  stab : ∀ (h : Fin 4) (d : Fin 128), (outsAt0 m c t.val t.isLt).2.2.2.2 (ix3 h 0 d)
    = ((((args m c).stream (bat t) h).m (256 * (t.val % 16) + 256) : ℝ) : EReal)
  out : ∀ (h : Fin 4) (r : Fin 256) (e : Fin 512), (outsAt0 m c t.val t.isLt).1 (ix3 0 r ⟨512 * h.val + e.val, by omega⟩)
    = outVal ((args m c).stream (bat t) h) (256 * (t.val % 16) + r.val) e
        ((args m c).oRaw (bat t) h (256 * (t.val % 16) + r.val) e) ((args m c).hn ⟨512 * h.val + e.val, by omega⟩)

set_option maxHeartbeats 1000000 in
theorem after_A (t : Fin cfg0.N) (h0 : t.val % 16 = 0) : After (m := m) (c := c) t := by
  have N := holds_first hX t h0
  constructor
  · intro h d e; simp only [outsAt0_A m c t h0]; exact Points.sout0_A_0_at _ _ _ _ _ _ _ _ _ _ _ _ _ _ _ _ _ _ _ _ _ _ _ _ _ _ _ _ _ _ _ _ _ _ _ _ _ N h d e
  · intro h d; simp only [outsAt0_A m c t h0]; exact Points.sout0_A_1_at _ _ _ _ _ _ _ _ _ _ _ _ _ _ _ _ _ _ _ _ _ _ _ _ _ _ _ _ _ _ _ _ _ _ _ _ _ N h d
  · intro h d; simp only [outsAt0_A m c t h0]; exact Points.sout0_A_2_at _ _ _ _ _ _ _ _ _ _ _ _ _ _ _ _ _ _ _ _ _ _ _ _ _ _ _ _ _ _ _ _ _ _ _ _ _ N h d
  · intro h r e; simp only [outsAt0_A m c t h0]
    refine (Points.out0_A_8_at _ _ _ _ _ _ _ _ _ _ _ _ _ _ _ _ _ _ _ _ _ _ _ _ _ _ _ _ _ _ _ _ _ _ _ _ _ N h r e).trans ?_
    rw [o_blk, hn_blk]

set_option maxHeartbeats 1000000 in
theorem after_B (t t' : Fin cfg0.N) (h0 : ¬ t.val % 16 = 0) (ht : t'.val = t.val - 1) (ih : After (m := m) (c := c) t') :
    After (m := m) (c := c) t := by
  have hb : bat t' = bat t := Fin.ext (by show t'.val / 16 = t.val / 16; omega)
  have hT : 256 * (t'.val % 16) + 256 = 256 * (t.val % 16) := by omega
  have i0 := ih.mem
  have i1 := ih.nrm
  have i2 := ih.stab
  rw [hb, hT] at i0 i1 i2
  obtain ⟨n', hn'⟩ := t'
  obtain rfl : n' = t.val - 1 := ht
  have N := holds_of hX t _ _ _ i0 i1 i2
  constructor
  · intro h d e; simp only [outsAt0_B m c t h0]; exact Points.sout0_B_0_at _ _ _ _ _ _ _ _ _ _ _ _ _ _ _ _ _ _ _ _ _ _ _ _ _ _ _ _ _ _ _ _ _ _ _ _ _ _ _ _ N h d e
  · intro h d; simp only [outsAt0_B m c t h0]; exact Points.sout0_B_1_at _ _ _ _ _ _ _ _ _ _ _ _ _ _ _ _ _ _ _ _ _ _ _ _ _ _ _ _ _ _ _ _ _ _ _ _ _ _ _ _ N h d
  · intro h d; simp only [outsAt0_B m c t h0]; exact Points.sout0_B_2_at _ _ _ _ _ _ _ _ _ _ _ _ _ _ _ _ _ _ _ _ _ _ _ _ _ _ _ _ _ _ _ _ _ _ _ _ _ _ _ _ N h d
  · intro h r e; simp only [outsAt0_B m c t h0]
    refine (Points.out0_B_8_at _ _ _ _ _ _ _ _ _ _ _ _ _ _ _ _ _ _ _ _ _ _ _ _ _ _ _ _ _ _ _ _ _ _ _ _ _ _ _ _ N h r e).trans ?_
    rw [o_blk, hn_blk]

theorem after_all (n : ℕ) (hn : n < cfg0.N) : After (m := m) (c := c) ⟨n, hn⟩ := by
  induction n with
  | zero => exact after_A hX ⟨0, hn⟩ rfl
  | succ n ih =>
    by_cases h0 : (n + 1) % 16 = 0
    · exact after_A hX ⟨n + 1, hn⟩ h0
    · exact after_B hX ⟨n + 1, hn⟩ ⟨n, by omega⟩ h0 rfl (ih (by omega))

end Cert.KernelIdeal.KBlocks
end
-- ==== Proof.KValue.lean ====
module

public import proofs.«01_k».proof.Proof.KBlocks
@[expose] public section
set_option maxRecDepth 16384
noncomputable section
namespace Cert.KernelIdeal.KValue
open Cert.KernelIdeal Cert.KernelIdeal.Gen Idealize.ShloMosaic Idealize.ShloMosaic.TcCoe Idealize.SL.Sem
open Cert.Mlstm Cert.KernelIdeal.KBlocks

attribute [local irreducible] outsAt0 out0_A_8 out0_B_8 out0_A_9 out0_B_9 sout0_A_0 sout0_A_1 sout0_A_2 sout0_B_0 sout0_B_1 sout0_B_2

variable {m : (ℓ : Loc nD τ sig) → Buf (Elt Ideal) ℓ} {c : Dev nD}

theorem final8 (hX : (args m c).Finite) : (dats m 0 c).arrAt 8 cfg0.N
    = (fun j => outAt (args m c) (j 0) (j 1) (j 2) : Vec Ideal S2x4096x2048 .bf16) := by
  refine (dats m 0 c).arrAt_eq_of_covers 8 _ (by decide +kernel) fun t hf y => ?_
  blk_simp
  rw [after0_8]
  have hi := (idx t).2.2.2.2.2.2.2.2.1
  obtain ⟨r, k, rfl⟩ := Points.idx_one (a := 256) (b := 2048) y
  have e0 : (win0_8.blk t).view.emb (ix3 0 r k) 0 = bat t := Fin.ext (by blk_simp [hi]; rfl)
  have e1 : (win0_8.blk t).view.emb (ix3 0 r k) 1 = (⟨256 * (t.val % 16) + r.val, by omega⟩ : Fin 4096) := Fin.ext (by
    blk_simp [hi]
    show t.val % 16 * 256 + r.val = 256 * (t.val % 16) + r.val
    omega)
  have e2 : (win0_8.blk t).view.emb (ix3 0 r k) 2 = k := Fin.ext (by blk_simp [hi])
  have hk : (⟨512 * (k.val / 512) + k.val % 512, by omega⟩ : Fin 2048) = k := Fin.ext (by show 512 * (k.val / 512) + k.val % 512 = k.val; omega)
  have h := (after_all hX t.val t.isLt).out ⟨k.val / 512, by omega⟩ r ⟨k.val % 512, by omega⟩
  dsimp only at h
  rw [hk] at h
  rw [e0, e1, e2]
  exact h

theorem final9 : (dats m 0 c).arrAt 9 cfg0.N
    = (fun j => (m ((c : Thread nD τ).loc main_arg4) : Vec Ideal S1x4096x11008 .f32) (ix3 0 (j 0) (j 1)) : Vec Ideal S4096x11008 .bf16) := by
  refine (dats m 0 c).arrAt_eq_of_covers 9 _ (by decide +kernel) fun t hf y => ?_
  blk_simp
  rw [after0_9]
  have hi := (idx t).2.2.2.2.2.2.2.2.2
  have ht : t.val < 32 := t.isLt
  obtain ⟨r, k, rfl⟩ : ∃ (r : Fin 128) (k : Fin 11008), y = ix2 r k := ⟨y 0, y 1, eq_ix2 y⟩
  have e0 : (win0_9.blk t).view.emb (ix2 r k) 0 = (⟨t.val * 128 + r.val, by omega⟩ : Fin 4096) := Fin.ext (by blk_simp [hi])
  have e1 : (win0_9.blk t).view.emb (ix2 r k) 1 = k := Fin.ext (by blk_simp [hi])
  rw [e0, e1, ← w_blk m c t]
  by_cases h0 : t.val % 16 = 0
  · simp only [outsAt0_A m c t h0]
    exact Points.out0_A_9_at _ _ _ _ _ _ _ _ _ _ _ _ _ _ _ _ _ _ _ _ _ _ _ _ _ _ _ _ _ _ _ _ _ _ _ _ _ r k
  · simp only [outsAt0_B m c t h0]
    exact Points.out0_B_9_at _ _ _ _ _ _ _ _ _ _ _ _ _ _ _ _ _ _ _ _ _ _ _ _ _ _ _ _ _ _ _ _ _ _ _ _ _ _ _ _ r k

variable (m) (ρ : Dev nD → PrngReg)

/-- The kernel's run: its results, from finite projections, and its arguments unchanged. -/
theorem run (hX : ∀ c, (args m c).Finite) : θ_run (defs (F := Ideal)) (onTc (τ := τ) (main (F := Ideal))) ⟨m, fun _ => 0, ρ⟩
    (fun r => ∀ c : Dev nD,
      r.2.mem ((c : Thread nD τ).loc main_v5_0) = (fun j => outAt (args m c) (j 0) (j 1) (j 2) : Vec Ideal S2x4096x2048 .bf16)
      ∧ r.2.mem ((c : Thread nD τ).loc main_v5_1) = (fun j => (m ((c : Thread nD τ).loc main_arg4) : Vec Ideal S1x4096x11008 .f32) (ix3 0 (j 0) (j 1)) : Vec Ideal S4096x11008 .bf16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c =>
    ⟨((h c).1 8).trans (final8 (hX c)), ((h c).1 9).trans final9,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 7).trans (((dats m 0 c).arrAt_in 7 rfl _).trans ((A_eq m c 7).trans (V_main_arg4 m c)))⟩)
    (run_main m ρ)

end Cert.KernelIdeal.KValue
end
-- ==== Proof.RefStep.lean ====
module

public import proofs.«01_k».proof.Proof.Gen.ReferenceIdeal.Run
public import proofs.«01_k».proof.Proof.Streams
public import Idealize.ShloMosaic.Lib.Pointwise
public import Idealize.ShloMosaic.Lib.DynamicIndex
public import Idealize.ShloMosaic.Lib.Tactic.CleanTypes
@[expose] public section
set_option maxRecDepth 16384
noncomputable section
namespace Cert.ReferenceIdeal.Step
open Cert.ReferenceIdeal Cert.ReferenceIdeal.Gen Cert.ReferenceIdeal.Value Idealize.ShloMosaic Idealize.ShloMosaic.TcCoe Idealize.SL.Sem
open Cert.Mlstm

/-! ## Running sums along the last axis -/

theorem foldl_add {ι : Type} (f : ι → EReal) (l : List ι) (z : EReal) : l.foldl (fun r n => r + f n) z = z + (l.map f).sum := by
  induction l generalizing z with
  | nil => simp
  | cons a l ih => rw [List.foldl_cons, ih, List.map_cons, List.sum_cons, add_assoc]

/-- A window of the whole length, of which the part before the vector holds zeros, sums a prefix. -/
theorem sum_prefix (f : ℕ → EReal) (j : ℕ) (hj : j < 64) :
    (∑ w : Fin 64, if 63 ≤ j + w.val then f (j + w.val - 63) else 0) = ∑ i ∈ Finset.range (j + 1), f i := by
  rw [Fin.sum_univ_eq_sum_range (fun w => if 63 ≤ j + w then f (j + w - 63) else 0) 64, ← Finset.sum_filter]
  refine Finset.sum_nbij (fun w => j + w - 63) ?_ ?_ ?_ fun _ _ => rfl
  · intro w hw; simp only [Finset.mem_filter, Finset.mem_range] at hw ⊢; omega
  · intro a ha b hb h; simp only [Finset.coe_filter, Finset.mem_range, Set.mem_setOf_eq] at ha hb h; omega
  · intro i hi
    simp only [Finset.coe_range, Set.mem_Iio] at hi
    refine ⟨i + 63 - j, ?_, by show j + (i + 63 - j) - 63 = i; omega⟩
    simp only [Finset.coe_filter, Finset.mem_range, Set.mem_setOf_eq]; omega

/-- The running sum along a chunk. -/
theorem cumsum_at (x : FVec Ideal S2x4x64 .f32) (init : FVec Ideal S_ .f32) (h0 : init (Shape.Idx.first h_S_) = 0)
    (b : Fin 2) (h : Fin 4) (i : Fin 64) (f : ℕ → EReal) (hf : ∀ j : Fin 64, x (ix3 b h j) = f j.val) :
    Host.reduceWindowAdd ![1, 1, 64] ![1, 1, 1] ![0, 0, 63] ![0, 0, 0] x init
      reduceWindows_S2x4x64_S2x4x64_w1s1p0_0_w1s1p0_0_w64s1p63_0 h_S_ (ix3 b h i) = ∑ j ∈ Finset.range (i.val + 1), f j := by
  unfold Host.reduceWindowAdd
  rw [Ideal.hostReduceWindowAdd_def, h0]
  unfold Ideal.hostReduceWindowAdd Host.reduceWindow
  dsimp only
  rw [foldl_add, zero_add, ← List.ofFn_eq_map, List.sum_ofFn]
  rw [← Equiv.sum_comp (Shape.rowMajor (⟨3, ![1, 1, 64]⟩ : Shape)), sum_idx3, Fin.sum_univ_one, Fin.sum_univ_one,
    ← sum_prefix f i.val i.isLt]
  simp only [Equiv.symm_apply_apply]
  refine Finset.sum_congr rfl fun w _ => ?_
  by_cases hw : 63 ≤ i.val + w.val
  · have hb := b.isLt
    have hh := h.isLt
    have hi := i.isLt
    have hlt : i.val + w.val - 63 < 64 := by omega
    rw [if_pos hw, dif_pos, ← hf ⟨i.val + w.val - 63, hlt⟩]
    · congr 1
      funext a
      match a with
      | ⟨0, _⟩ => exact Fin.ext (by simp)
      | ⟨1, _⟩ => exact Fin.ext (by simp)
      | ⟨2, _⟩ => exact Fin.ext (by simp)
    · intro a
      match a with
      | ⟨0, _⟩ => simp; try omega
      | ⟨1, _⟩ => simp
      | ⟨2, _⟩ => simp; omega
  · rw [if_neg hw, dif_neg]
    intro hin
    have := (hin ⟨2, by omega⟩).1
    apply hw
    simpa using this

/-! ## A chunk of a carried buffer -/

theorem slice5 {e : Nat} {F : Type} (x : (⟨5, ![64, 2, 4, 64, e]⟩ : Shape).Idx → F) (start : Fin 5 → Int)
    (hs : (⟨5, ![64, 2, 4, 64, e]⟩ : Shape).Slices (fun _ => 0) ⟨5, ![1, 2, 4, 64, e]⟩)
    (k : Fin 64) (h0 : start 0 = k.val) (h1 : start 1 = 0) (h2 : start 2 = 0) (h3 : start 3 = 0) (h4 : start 4 = 0)
    (b : Fin 2) (h : Fin 4) (i : Fin 64) (d : Fin e) :
    Host.dynamicSlice ⟨5, ![1, 2, 4, 64, e]⟩ x start hs (ix5 0 b h i d) = x (ix5 k b h i d) := by
  have hoff : (⟨5, ![64, 2, 4, 64, e]⟩ : Shape).Slices ![k.val, 0, 0, 0, 0] ⟨5, ![1, 2, 4, 64, e]⟩ := by
    refine ⟨rfl, fun a => ?_⟩
    have := k.isLt
    match a with
    | ⟨0, _⟩ => simp; try omega
    | ⟨1, _⟩ => simp
    | ⟨2, _⟩ => simp
    | ⟨3, _⟩ => simp
    | ⟨4, _⟩ => simp
  rw [Host.dynamicSlice_eq_extractStridedSlice _ x start ![k.val, 0, 0, 0, 0] hs hoff]
  · pointwise []
    refine congrArg x (funext fun a => ?_)
    match a with
    | ⟨0, _⟩ => exact Fin.ext (Nat.add_zero _)
    | ⟨1, _⟩ => exact Fin.ext (Nat.zero_add _)
    | ⟨2, _⟩ => exact Fin.ext (Nat.zero_add _)
    | ⟨3, _⟩ => exact Fin.ext (Nat.zero_add _)
    | ⟨4, _⟩ => exact Fin.ext (Nat.zero_add _)
  · intro a
    match a with
    | ⟨0, _⟩ => exact h0
    | ⟨1, _⟩ => exact h1
    | ⟨2, _⟩ => exact h2
    | ⟨3, _⟩ => exact h3
    | ⟨4, _⟩ => exact h4

theorem slice4 {F : Type} (x : (⟨4, ![64, 2, 4, 64]⟩ : Shape).Idx → F) (start : Fin 4 → Int)
    (hs : (⟨4, ![64, 2, 4, 64]⟩ : Shape).Slices (fun _ => 0) ⟨4, ![1, 2, 4, 64]⟩)
    (k : Fin 64) (h0 : start 0 = k.val) (h1 : start 1 = 0) (h2 : start 2 = 0) (h3 : start 3 = 0)
    (b : Fin 2) (h : Fin 4) (i : Fin 64) :
    Host.dynamicSlice ⟨4, ![1, 2, 4, 64]⟩ x start hs (ix4 0 b h i) = x (ix4 k b h i) := by
  have hoff : (⟨4, ![64, 2, 4, 64]⟩ : Shape).Slices ![k.val, 0, 0, 0] ⟨4, ![1, 2, 4, 64]⟩ := by
    refine ⟨rfl, fun a => ?_⟩
    have := k.isLt
    match a with
    | ⟨0, _⟩ => simp; try omega
    | ⟨1, _⟩ => simp
    | ⟨2, _⟩ => simp
    | ⟨3, _⟩ => simp
  rw [Host.dynamicSlice_eq_extractStridedSlice _ x start ![k.val, 0, 0, 0] hs hoff]
  · pointwise []
  · intro a
    match a with
    | ⟨0, _⟩ => exact h0
    | ⟨1, _⟩ => exact h1
    | ⟨2, _⟩ => exact h2
    | ⟨3, _⟩ => exact h3

/-- A chunk written at its place in the stack of the chunks' outputs. -/
theorem update5 {F : Type} (x : (⟨5, ![64, 2, 4, 64, 512]⟩ : Shape).Idx → F) (u : (⟨5, ![1, 2, 4, 64, 512]⟩ : Shape).Idx → F)
    (start : Fin 5 → Int)
    (hs : (⟨5, ![64, 2, 4, 64, 512]⟩ : Shape).Slices (fun _ => 0) ⟨5, ![1, 2, 4, 64, 512]⟩)
    (k : Fin 64) (h0 : start 0 = k.val) (h1 : start 1 = 0) (h2 : start 2 = 0) (h3 : start 3 = 0) (h4 : start 4 = 0)
    (c : Fin 64) (b : Fin 2) (h : Fin 4) (i : Fin 64) (d : Fin 512) :
    Host.dynamicUpdateSlice x u start hs (ix5 c b h i d) = if c = k then u (ix5 0 b h i d) else x (ix5 c b h i d) := by
  have hk := k.isLt
  have e0 : Host.clampedStart ⟨5, ![64, 2, 4, 64, 512]⟩ ⟨5, ![1, 2, 4, 64, 512]⟩ hs.1 start 0 = k.val :=
    Host.clampedStart_of_le hs.1 start 0 k.val h0 (by simp)
  have e1 : Host.clampedStart ⟨5, ![64, 2, 4, 64, 512]⟩ ⟨5, ![1, 2, 4, 64, 512]⟩ hs.1 start 1 = 0 :=
    Host.clampedStart_of_le hs.1 start 1 0 h1 (by simp)
  have e2 : Host.clampedStart ⟨5, ![64, 2, 4, 64, 512]⟩ ⟨5, ![1, 2, 4, 64, 512]⟩ hs.1 start 2 = 0 :=
    Host.clampedStart_of_le hs.1 start 2 0 h2 (by simp)
  have e3 : Host.clampedStart ⟨5, ![64, 2, 4, 64, 512]⟩ ⟨5, ![1, 2, 4, 64, 512]⟩ hs.1 start 3 = 0 :=
    Host.clampedStart_of_le hs.1 start 3 0 h3 (by simp)
  have e4 : Host.clampedStart ⟨5, ![64, 2, 4, 64, 512]⟩ ⟨5, ![1, 2, 4, 64, 512]⟩ hs.1 start 4 = 0 :=
    Host.clampedStart_of_le hs.1 start 4 0 h4 (by simp)
  rw [Host.dynamicUpdateSlice_apply]
  by_cases hc : c = k
  · subst hc
    rw [dif_pos, if_pos rfl]
    · congr 1
      funext a
      match a with
      | ⟨0, _⟩ => exact Fin.ext ((congrArg (c.val - ·) e0).trans (Nat.sub_self _))
      | ⟨1, _⟩ => exact Fin.ext ((congrArg (b.val - ·) e1).trans (Nat.sub_zero _))
      | ⟨2, _⟩ => exact Fin.ext ((congrArg (h.val - ·) e2).trans (Nat.sub_zero _))
      | ⟨3, _⟩ => exact Fin.ext ((congrArg (i.val - ·) e3).trans (Nat.sub_zero _))
      | ⟨4, _⟩ => exact Fin.ext ((congrArg (d.val - ·) e4).trans (Nat.sub_zero _))
    · intro a
      have hb := b.isLt
      have hh := h.isLt
      have hi := i.isLt
      have hd := d.isLt
      match a with
      | ⟨0, _⟩ => exact ⟨e0.le, e0.symm ▸ Nat.lt_succ_self _⟩
      | ⟨1, _⟩ => exact ⟨e1.symm ▸ Nat.zero_le _, e1.symm ▸ (by simp; try omega)⟩
      | ⟨2, _⟩ => exact ⟨e2.symm ▸ Nat.zero_le _, e2.symm ▸ (by simp; try omega)⟩
      | ⟨3, _⟩ => exact ⟨e3.symm ▸ Nat.zero_le _, e3.symm ▸ (by simp; try omega)⟩
      | ⟨4, _⟩ => exact ⟨e4.symm ▸ Nat.zero_le _, e4.symm ▸ (by simp; try omega)⟩
  · rw [if_neg hc, dif_neg]
    intro hin
    have h := hin 0
    rw [e0] at h
    exact hc (Fin.ext (le_antisymm (Nat.le_of_lt_succ h.2) h.1))

theorem cast256 (y : FVec Ideal S1x2x4x64x256 .f32) (b : Fin 2) (h : Fin 4) (i : Fin 64) (d : Fin 256) :
    shapeCast S2x4x64x256 y shapeCasts_S1x2x4x64x256_S2x4x64x256 (ix4 b h i d) = y (ix5 0 b h i d) := by
  pointwise []

theorem cast512 (y : FVec Ideal S1x2x4x64x512 .f32) (b : Fin 2) (h : Fin 4) (i : Fin 64) (d : Fin 512) :
    shapeCast S2x4x64x512 y shapeCasts_S1x2x4x64x512_S2x4x64x512 (ix4 b h i d) = y (ix5 0 b h i d) := by
  pointwise []

theorem cast64 (y : FVec Ideal S1x2x4x64 .f32) (b : Fin 2) (h : Fin 4) (i : Fin 64) :
    shapeCast S2x4x64 y shapeCasts_S1x2x4x64_S2x4x64 (ix3 b h i) = y (ix4 0 b h i) := by
  pointwise []

/-! ## One trip of the loop -/

/-- The loop's buffers before trip `k`: the chunks of the streams, and each head's state after `64 * k` tokens. -/
structure Carried (X : Args) (V : Valuation τ sig (Elt Ideal)) (k : ℕ) : Prop where
  ctr : (V (Proc.devRef .tc main_v52_6) : IVec S_ 32) = fun _ => BitVec.ofNat 32 k
  qs : ∀ (c : Fin 64) b h (i : Fin 64) d, (V (Proc.devRef .tc main_v52_0) : FVec Ideal S64x2x4x64x256 .f32) (ix5 c b h i d)
    = (((X.stream b h).q (64 * c.val + i.val) d : ℝ) : EReal)
  ks : ∀ (c : Fin 64) b h (i : Fin 64) d, (V (Proc.devRef .tc main_v52_1) : FVec Ideal S64x2x4x64x256 .f32) (ix5 c b h i d)
    = (((X.stream b h).k (64 * c.val + i.val) d : ℝ) : EReal)
  vs : ∀ (c : Fin 64) b h (i : Fin 64) e, (V (Proc.devRef .tc main_v52_2) : FVec Ideal S64x2x4x64x512 .f32) (ix5 c b h i e)
    = (((X.stream b h).v (64 * c.val + i.val) e : ℝ) : EReal)
  li : ∀ (c : Fin 64) b h (i : Fin 64), (V (Proc.devRef .tc main_v52_3) : FVec Ideal S64x2x4x64 .f32) (ix4 c b h i)
    = (((X.stream b h).li (64 * c.val + i.val) : ℝ) : EReal)
  lf : ∀ (c : Fin 64) b h (i : Fin 64), (V (Proc.devRef .tc main_v52_4) : FVec Ideal S64x2x4x64 .f32) (ix4 c b h i)
    = (((X.stream b h).lf (64 * c.val + i.val) : ℝ) : EReal)
  mask : ∀ i j : Fin 64, (V (Proc.devRef .tc main_v52_5) : IVec S64x64 1) (ix2 i j) = BitVec.ofBool (decide (j.val ≤ i.val))
  mem : ∀ b h d e, (V (Proc.devRef .tc main_v52_7) : FVec Ideal S2x4x256x512 .f32) (ix4 b h d e)
    = (((X.stream b h).C (64 * k) d e : ℝ) : EReal)
  nrm : ∀ b h d, (V (Proc.devRef .tc main_v52_8) : FVec Ideal S2x4x256 .f32) (ix3 b h d) = (((X.stream b h).n (64 * k) d : ℝ) : EReal)
  stab : ∀ b h, (V (Proc.devRef .tc main_v52_9) : FVec Ideal S2x4 .f32) (ix2 b h) = (((X.stream b h).m (64 * k) : ℝ) : EReal)
  out : ∀ (c : Fin 64) b h (i : Fin 64) e, c.val < k →
    (V (Proc.devRef .tc main_v52_10) : FVec Ideal S64x2x4x64x512 .f32) (ix5 c b h i e) = (X.stream b h).h (64 * c.val + i.val) e

variable {X : Args} {V : Valuation τ sig (Elt Ideal)} {K : ℕ} (R : Carried X V K) (hK : K < 64)

theorem toInt_ctr (hK : K < 64) : (BitVec.ofNat 32 K).toInt = K := by
  rw [BitVec.toInt_eq_toNat_of_lt (by simp; omega)]; simp; omega

include R

theorem start_eq : BitVec.toInt ((V (Proc.devRef .tc main_v52_6) : IVec S_ 32) (Shape.Idx.first h_S_)) = ((⟨K, hK⟩ : Fin 64).val : Int) :=
  (congrArg BitVec.toInt (congrFun R.ctr _)).trans (toInt_ctr hK)

include hK

theorem q_at (b : Fin 2) (h : Fin 4) (i : Fin 64) (d : Fin 256) :
    (res_main_while0b_v83 V : FVec Ideal S2x4x64x256 .f32) (ix4 b h i d) = (((X.stream b h).q (64 * K + i.val) d : ℝ) : EReal) := by
  unfold res_main_while0b_v83
  exact (cast256 _ b h i d).trans ((slice5 _ _ _ ⟨K, hK⟩ (start_eq R hK) rfl rfl rfl rfl b h i d).trans (R.qs ⟨K, hK⟩ b h i d))

theorem k_at (b : Fin 2) (h : Fin 4) (i : Fin 64) (d : Fin 256) :
    (res_main_while0b_v84 V : FVec Ideal S2x4x64x256 .f32) (ix4 b h i d) = (((X.stream b h).k (64 * K + i.val) d : ℝ) : EReal) := by
  unfold res_main_while0b_v84
  exact (cast256 _ b h i d).trans ((slice5 _ _ _ ⟨K, hK⟩ (start_eq R hK) rfl rfl rfl rfl b h i d).trans (R.ks ⟨K, hK⟩ b h i d))

theorem v_at (b : Fin 2) (h : Fin 4) (i : Fin 64) (d : Fin 512) :
    (res_main_while0b_v85 V : FVec Ideal S2x4x64x512 .f32) (ix4 b h i d) = (((X.stream b h).v (64 * K + i.val) d : ℝ) : EReal) := by
  unfold res_main_while0b_v85
  exact (cast512 _ b h i d).trans ((slice5 _ _ _ ⟨K, hK⟩ (start_eq R hK) rfl rfl rfl rfl b h i d).trans (R.vs ⟨K, hK⟩ b h i d))

theorem li_at (b : Fin 2) (h : Fin 4) (i : Fin 64) :
    (res_main_while0b_v86 V : FVec Ideal S2x4x64 .f32) (ix3 b h i) = (((X.stream b h).li (64 * K + i.val) : ℝ) : EReal) := by
  unfold res_main_while0b_v86
  exact (cast64 _ b h i).trans ((slice4 _ _ _ ⟨K, hK⟩ (start_eq R hK) rfl rfl rfl b h i).trans (R.li ⟨K, hK⟩ b h i))

theorem b_at (b : Fin 2) (h : Fin 4) (i : Fin 64) :
    (res_main_while0b_v88 V : FVec Ideal S2x4x64 .f32) (ix3 b h i) = ((bl (X.stream b h) (64 * K) i.val : ℝ) : EReal) := by
  unfold res_main_while0b_v88
  clean_types
  refine (cumsum_at _ _ ?_ b h i (fun j => (((X.stream b h).lf (64 * K + j) : ℝ) : EReal)) ?_).trans ?_
  · pointwise []
  · intro j
    exact (cast64 _ b h j).trans ((slice4 _ _ _ ⟨K, hK⟩ (start_eq R hK) rfl rfl rfl b h j).trans (R.lf ⟨K, hK⟩ b h j))
  · rw [coe_sum]
    simp only [bl, Stream.B]
    rw [Nat.add_assoc (64 * K) i.val 1, Finset.sum_range_add _ (64 * K), add_sub_cancel_left]

theorem dm_at (b : Fin 2) (h : Fin 4) (i j : Fin 64) :
    (res_main_while0b_v97 V : FVec Ideal S2x4x64x64 .f32) (ix4 b h i j) = dmat (X.stream b h) (64 * K) i j := by
  pointwise [res_main_while0b_v97]
  rw [R.mask, b_at R hK, b_at R hK, li_at R hK, id_eq, constant_apply]
  show Scalar.select _ _ (Ideal.ofBits FTy.f32 0xFF800000#32) = _
  rw [ofBits_neg_inf, dmat]
  by_cases h : j.val ≤ i.val <;> simp [h, Scalar.select]

theorem inter_at (b : Fin 2) (h : Fin 4) (i : Fin 64) : (res_main_while0b_v100 V : FVec Ideal S2x4x64 .f32) (ix3 b h i)
    = ((bl (X.stream b h) (64 * K) i.val : ℝ) : EReal) + (((X.stream b h).m (64 * K) : ℝ) : EReal) := by
  unfold res_main_while0b_v100
  clean_types
  pointwise []
  rw [b_at R hK, R.stab]

theorem mrow_at (b : Fin 2) (h : Fin 4) (i : Fin 64) : (res_main_while0b_v102 V : FVec Ideal S2x4x64 .f32) (ix3 b h i)
    = (((X.stream b h).m (64 * K + i.val + 1) : ℝ) : EReal) := by
  unfold res_main_while0b_v102
  clean_types
  pointwise []
  rw [inter_at R hK, ← mrow_eq]
  simp only [dm_at R hK, ofBits_neg_inf]

theorem sint_at (b : Fin 2) (h : Fin 4) (i : Fin 64) : (res_main_while0b_v108 V : FVec Ideal S2x4x64 .f32) (ix3 b h i)
    = ((Real.exp ((X.stream b h).A (64 * K) - (X.stream b h).A (64 * K + i.val + 1)) : ℝ) : EReal) := by
  unfold res_main_while0b_v108
  clean_types
  pointwise []
  rw [inter_at R hK, mrow_at R hK, sinter_eq]

theorem qk_at (b : Fin 2) (h : Fin 4) (i j : Fin 64) : (res_main_while0b_v110 V : FVec Ideal S2x4x64x64 .f32) (ix4 b h i j)
    = (((X.stream b h).qk (64 * K + i.val) (64 * K + j.val)
      * (if j.val ≤ i.val then (X.stream b h).w (64 * K + j.val) (64 * K + i.val + 1) else 0) : ℝ) : EReal) := by
  unfold res_main_while0b_v110
  clean_types
  pointwise []
  rw [dm_at R hK, mrow_at R hK, wintra_eq]
  simp only [q_at R hK, k_at R hK]
  simp only [← EReal.coe_mul, coe_sum, Stream.qk]

theorem last_at (b : Fin 2) (h : Fin 4) :
    (res_main_while0b_v129 V : FVec Ideal S2x4 .f32) (ix2 b h) = ((bl (X.stream b h) (64 * K) 63 : ℝ) : EReal) := by
  unfold res_main_while0b_v129
  clean_types
  pointwise []
  exact b_at R hK b h 63

theorem a_at (b : Fin 2) (h : Fin 4) (j : Fin 64) :
    (res_main_while0b_v133 V : FVec Ideal S2x4x64 .f32) (ix3 b h j) = arow (X.stream b h) (64 * K) 63 j.val := by
  unfold res_main_while0b_v133
  clean_types
  pointwise []
  rw [last_at R hK, b_at R hK, li_at R hK]; rfl

theorem mnew_at (b : Fin 2) (h : Fin 4) :
    (res_main_while0b_v136 V : FVec Ideal S2x4 .f32) (ix2 b h) = (((X.stream b h).m (64 * K + 64) : ℝ) : EReal) := by
  unfold res_main_while0b_v136
  clean_types
  pointwise []
  rw [last_at R hK, R.stab, ← mnew_eq (X.stream b h) (64 * K) (L := 64) 63 rfl]
  simp only [a_at R hK, ofBits_neg_inf]

theorem s_at (b : Fin 2) (h : Fin 4) : (res_main_while0b_v139 V : FVec Ideal S2x4 .f32) (ix2 b h)
    = ((Real.exp ((X.stream b h).A (64 * K) - (X.stream b h).A (64 * K + 64)) : ℝ) : EReal) := by
  unfold res_main_while0b_v139
  clean_types
  pointwise []
  rw [last_at R hK, R.stab, mnew_at R hK, sstate_eq (X.stream b h) (64 * K) (L := 64) 63 rfl]

theorem kw_at (b : Fin 2) (h : Fin 4) (j : Fin 64) (d : Fin 256) : (res_main_while0b_v146 V : FVec Ideal S2x4x64x256 .f32) (ix4 b h j d)
    = (((X.stream b h).k (64 * K + j.val) d * (X.stream b h).w (64 * K + j.val) (64 * K + 64) : ℝ) : EReal) := by
  unfold res_main_while0b_v146
  clean_types
  pointwise []
  rw [k_at R hK, a_at R hK, mnew_at R hK, e_eq (X.stream b h) (64 * K) (L := 64) 63 rfl, ← EReal.coe_mul]

theorem mem_at (b : Fin 2) (h : Fin 4) (d : Fin 256) (e : Fin 512) : (step_main_v52_7 V : FVec Ideal S2x4x256x512 .f32) (ix4 b h d e)
    = (((X.stream b h).C (64 * K + 64) d e : ℝ) : EReal) := by
  unfold step_main_v52_7
  clean_types
  rw [id_eq]
  pointwise []
  simp only [s_at R hK, R.mem, kw_at R hK, v_at R hK]
  simp only [← EReal.coe_mul, coe_sum, ← EReal.coe_add]
  rw [C_step]

theorem nrm_at (b : Fin 2) (h : Fin 4) (d : Fin 256) : (step_main_v52_8 V : FVec Ideal S2x4x256 .f32) (ix3 b h d)
    = (((X.stream b h).n (64 * K + 64) d : ℝ) : EReal) := by
  unfold step_main_v52_8
  clean_types
  rw [id_eq]
  pointwise []
  simp only [s_at R hK, R.nrm, kw_at R hK]
  simp only [← EReal.coe_mul, coe_sum, ← EReal.coe_add]
  rw [n_step]

theorem out_at (c : Fin 64) (b : Fin 2) (h : Fin 4) (i : Fin 64) (e : Fin 512) (hc : c.val < K + 1) :
    (step_main_v52_10 V : FVec Ideal S64x2x4x64x512 .f32) (ix5 c b h i e) = (X.stream b h).h (64 * c.val + i.val) e := by
  unfold step_main_v52_10
  clean_types
  refine (update5 _ _ _ _ ⟨K, hK⟩ (start_eq R hK) rfl rfl rfl rfl c b h i e).trans ?_
  split
  · rename_i hk
    subst hk
    pointwise []
    simp only [sint_at R hK, q_at R hK, qk_at R hK, v_at R hK, R.mem, R.nrm]
    simp only [← EReal.coe_mul, coe_sum, ← EReal.coe_add]
    rw [num_eq, den_eq, mrow_at R hK, Ideal.absf_def, coe_abs, ← EReal.coe_neg, Ideal.exp_coe]
    rfl
  · rename_i hk
    exact R.out c b h i e (by have : c.val ≠ K := fun hh => hk (Fin.ext hh); omega)

/-- A trip carries the invariant on. -/
theorem carried_step : Carried X (STEP V) (K + 1) where
  ctr := by
    rw [STEP_main_v52_6]
    unfold step_main_v52_6
    clean_types
    rw [id_eq, R.ctr]
    funext x
    exact (BitVec.ofNat_add K 1).symm
  qs := by rw [STEP_main_v52_0]; exact R.qs
  ks := by rw [STEP_main_v52_1]; exact R.ks
  vs := by rw [STEP_main_v52_2]; exact R.vs
  li := by rw [STEP_main_v52_3]; exact R.li
  lf := by rw [STEP_main_v52_4]; exact R.lf
  mask := by rw [STEP_main_v52_5]; exact R.mask
  mem := by rw [STEP_main_v52_7]; exact mem_at R hK
  nrm := by rw [STEP_main_v52_8]; exact nrm_at R hK
  stab := by
    rw [STEP_main_v52_9]
    exact mnew_at R hK
  out := by rw [STEP_main_v52_10]; exact fun c b h i e hc => out_at R hK c b h i e hc

omit R hK in
/-- The invariant after any number of trips. -/
theorem carried_iter (R : Carried X V 0) : ∀ k, k ≤ 64 → Carried X (STEP^[k] V) k
  | 0, _ => R
  | k + 1, h => by
    rw [Function.iterate_succ_apply']
    exact carried_step (carried_iter R k (by omega)) (by omega)

end Cert.ReferenceIdeal.Step
end
-- ==== Proof.RefArgs.lean ====
module

public import proofs.«01_k».proof.Proof.RefStep
@[expose] public section
set_option maxRecDepth 16384
noncomputable section
namespace Cert.ReferenceIdeal.Entry
open Cert.ReferenceIdeal Cert.ReferenceIdeal.Gen Cert.ReferenceIdeal.Value Idealize.ShloMosaic Idealize.ShloMosaic.TcCoe Idealize.SL.Sem
open Idealize.ShloMosaic.StableHlo
open Cert.Mlstm

/-- The arguments among a program's buffers. -/
def argsOf (V : Valuation τ sig (Elt Ideal)) : Args where
  proj r k := (V (Proc.devRef .tc main_arg0) : Vec Ideal S8192x20480 .bf16) (ix2 r k)
  gates r k := (V (Proc.devRef .tc main_arg1) : Vec Ideal S8192x8 .f32) (ix2 r k)
  bias r k := (V (Proc.devRef .tc main_arg2) : Vec Ideal S2x4 .f32) (ix2 r k)
  hn r := (V (Proc.devRef .tc main_arg3) : Vec Ideal S2048 .f32) (ix1 r)

variable (V : Valuation τ sig (Elt Ideal))

theorem row_eq (b : Fin 2) (k i : Fin 64) :
    row b (64 * k.val + i.val) = (⟨b.val * 4096 + (k.val * 64 + i.val), by omega⟩ : Fin 8192) :=
  Fin.ext (by
    show (b.val * 4096 + (64 * k.val + i.val)) % 8192 = b.val * 4096 + (k.val * 64 + i.val)
    omega)

theorem row_eq' (b : Fin 2) (t : Fin 4096) : row b t.val = (⟨b.val * 4096 + t.val, by omega⟩ : Fin 8192) :=
  Fin.ext (by
    show (b.val * 4096 + t.val) % 8192 = b.val * 4096 + t.val
    omega)

theorem q_read (k : Fin 64) (b : Fin 2) (h : Fin 4) (i : Fin 64) (d : Fin 256) :
    (argsOf V).qRaw b h (64 * k.val + i.val) d = (V (Proc.devRef .tc main_arg0) : Vec Ideal S8192x20480 .bf16)
      (ix2 ⟨b.val * 4096 + (k.val * 64 + i.val), by omega⟩ ⟨h.val * 256 + d.val, by omega⟩) := by
  have e : (⟨256 * h.val + d.val, by omega⟩ : Fin 20480) = ⟨h.val * 256 + d.val, by omega⟩ := Fin.ext (by
    show 256 * h.val + d.val = h.val * 256 + d.val
    omega)
  unfold Args.qRaw
  rw [row_eq, e]
  rfl

theorem k_read (k : Fin 64) (b : Fin 2) (h : Fin 4) (i : Fin 64) (d : Fin 256) :
    (argsOf V).kRaw b h (64 * k.val + i.val) d = (V (Proc.devRef .tc main_arg0) : Vec Ideal S8192x20480 .bf16)
      (ix2 ⟨b.val * 4096 + (k.val * 64 + i.val), by omega⟩ ⟨1024 + (h.val * 256 + d.val), by omega⟩) := by
  have e : (⟨1024 + (256 * h.val + d.val), by omega⟩ : Fin 20480) = ⟨1024 + (h.val * 256 + d.val), by omega⟩ := Fin.ext (by
    show 1024 + (256 * h.val + d.val) = 1024 + (h.val * 256 + d.val)
    omega)
  unfold Args.kRaw
  rw [row_eq, e]
  rfl

theorem v_read (k : Fin 64) (b : Fin 2) (h : Fin 4) (i : Fin 64) (d : Fin 512) :
    (argsOf V).vRaw b h (64 * k.val + i.val) d = (V (Proc.devRef .tc main_arg0) : Vec Ideal S8192x20480 .bf16)
      (ix2 ⟨b.val * 4096 + (k.val * 64 + i.val), by omega⟩ ⟨2048 + (h.val * 512 + d.val), by omega⟩) := by
  have e : (⟨2048 + (512 * h.val + d.val), by omega⟩ : Fin 20480) = ⟨2048 + (h.val * 512 + d.val), by omega⟩ := Fin.ext (by
    show 2048 + (512 * h.val + d.val) = 2048 + (h.val * 512 + d.val)
    omega)
  unfold Args.vRaw
  rw [row_eq, e]
  rfl

theorem i_read (k : Fin 64) (b : Fin 2) (h : Fin 4) (i : Fin 64) :
    (argsOf V).gates (row b (64 * k.val + i.val)) ⟨h.val, by omega⟩ = (V (Proc.devRef .tc main_arg1) : Vec Ideal S8192x8 .f32)
      (ix2 ⟨b.val * 4096 + (k.val * 64 + i.val), by omega⟩ ⟨h.val, by omega⟩) := by
  rw [row_eq]
  rfl

theorem f_read (k : Fin 64) (b : Fin 2) (h : Fin 4) (i : Fin 64) :
    (argsOf V).gates (row b (64 * k.val + i.val)) ⟨4 + h.val, by omega⟩ = (V (Proc.devRef .tc main_arg1) : Vec Ideal S8192x8 .f32)
      (ix2 ⟨b.val * 4096 + (k.val * 64 + i.val), by omega⟩ ⟨4 + h.val, by omega⟩) := by
  rw [row_eq]
  rfl

theorem bias_read (a : Fin 2) (h : Fin 4) :
    (argsOf V).bias a h = (V (Proc.devRef .tc main_arg2) : Vec Ideal S2x4 .f32) (ix2 a h) := rfl

end Cert.ReferenceIdeal.Entry
end
-- ==== Proof.RefTerms.lean ====
module

public import proofs.«01_k».proof.Proof.RefArgs
@[expose] public section
set_option maxRecDepth 16384
noncomputable section
namespace Cert.ReferenceIdeal.Entry
open Cert.ReferenceIdeal Cert.ReferenceIdeal.Gen Cert.ReferenceIdeal.Value Idealize.ShloMosaic Idealize.ShloMosaic.TcCoe Idealize.SL.Sem
open Idealize.ShloMosaic.StableHlo
open Cert.Mlstm

/-! The chunks of the streams as the reference arranges them: token `64 * k + i` of a head at chunk `k` and place `i`. -/

section Terms
variable (P : FVec Ideal S8192x20480 .bf16) (G : FVec Ideal S8192x8 .f32) (Bi : FVec Ideal S2x4 .f32)

def arrange256 (x : FVec Ideal S2x4096x4x256 .f32) : FVec Ideal S64x2x4x64x256 .f32 :=
  transpose S64x2x4x64x256 [1, 0, 3, 2, 4] (shapeCast S2x64x64x4x256 x shapeCasts_S2x4096x4x256_S2x64x64x4x256)
    transposes_S2x64x64x4x256_S64x2x4x64x256_1_0_3_2_4

def arrange4 (x : FVec Ideal S2x4096x4 .f32) : FVec Ideal S64x2x4x64 .f32 :=
  transpose S64x2x4x64 [1, 0, 3, 2] (shapeCast S2x64x64x4 x shapeCasts_S2x4096x4_S2x64x64x4) transposes_S2x64x64x4_S64x2x4x64_1_0_3_2

def qTerm : FVec Ideal S64x2x4x64x256 .f32 :=
  arrange256 (mulf (shapeCast S2x4096x4x256 (extf .f32 (extractStridedSlice S8192x1024 ![0, 0] P slices_S8192x20480_S8192x1024_0_0) bitsLt_bf16_f32)
    shapeCasts_S8192x1024_S2x4096x4x256) (broadcastInDim S2x4096x4x256 ![] bcast_S_S2x4096x4x256 (constant S_ .f32 0x3D800000#32)))

def kTerm : FVec Ideal S64x2x4x64x256 .f32 :=
  arrange256 (shapeCast S2x4096x4x256 (extf .f32 (extractStridedSlice S8192x1024 ![0, 1024] P slices_S8192x20480_S8192x1024_0_1024) bitsLt_bf16_f32)
    shapeCasts_S8192x1024_S2x4096x4x256)

def vTerm : FVec Ideal S64x2x4x64x512 .f32 :=
  transpose S64x2x4x64x512 [1, 0, 3, 2, 4] (shapeCast S2x64x64x4x512
    (shapeCast S2x4096x4x512 (extf .f32 (extractStridedSlice S8192x2048 ![0, 2048] P slices_S8192x20480_S8192x2048_0_2048) bitsLt_bf16_f32)
      shapeCasts_S8192x2048_S2x4096x4x512) shapeCasts_S2x4096x4x512_S2x64x64x4x512) transposes_S2x64x64x4x512_S64x2x4x64x512_1_0_3_2_4

/-- The capped gates of all tokens, from a gate's columns and a gate's bias. -/
def gateTerm (g : FVec Ideal S8192x4 .f32) (b : FVec Ideal S1x4 .f32) : FVec Ideal S2x4096x4 .f32 :=
  mulf (broadcastInDim S2x4096x4 ![] bcast_S_S2x4096x4 (constant S_ .f32 0x41700000#32))
    (Host.tanh (Host.divf (addf (shapeCast S2x4096x4 g shapeCasts_S8192x4_S2x4096x4)
      (broadcastInDim S2x4096x4 ![0, 1, 2] bcast_S1x1x4_S2x4096x4_0_1_2 (broadcastInDim S1x1x4 ![2] bcast_S4_S1x1x4_2
        (shapeCast S4 b shapeCasts_S1x4_S4)))) (broadcastInDim S2x4096x4 ![] bcast_S_S2x4096x4 (constant S_ .f32 0x41700000#32))))

def iTerm : FVec Ideal S2x4096x4 .f32 :=
  gateTerm (extractStridedSlice S8192x4 ![0, 0] G slices_S8192x8_S8192x4_0_0) (extractStridedSlice S1x4 ![0, 0] Bi slices_S2x4_S1x4_0_0)

def fTerm : FVec Ideal S2x4096x4 .f32 :=
  gateTerm (extractStridedSlice S8192x4 ![0, 4] G slices_S8192x8_S8192x4_0_4) (extractStridedSlice S1x4 ![1, 0] Bi slices_S2x4_S1x4_1_0)

def zeros : FVec Ideal S2x4096x4 .f32 := broadcastInDim S2x4096x4 ![] bcast_S_S2x4096x4 (constant S_ .f32 0x00000000#32)

/-- The softplus function. -/
def softplus (x : FVec Ideal S2x4096x4 .f32) : FVec Ideal S2x4096x4 .f32 :=
  select (cmpf .une (subf x zeros) (subf x zeros)) (addf x zeros)
    (addf (maximumf x zeros) (Host.log1p (Host.exp (Host.negf (Host.absf (subf x zeros))))))

variable (V : Valuation τ sig (Elt Ideal))

theorem q_term : (afterL preI V (Proc.devRef .tc main_v52_0) : FVec Ideal S64x2x4x64x256 .f32) = qTerm (V (Proc.devRef .tc main_arg0)) := by
  simp only [afterL_cons, afterL_nil]
  after_reads_simp
  rfl

theorem k_term : (afterL preI V (Proc.devRef .tc main_v52_1) : FVec Ideal S64x2x4x64x256 .f32) = kTerm (V (Proc.devRef .tc main_arg0)) := by
  simp only [afterL_cons, afterL_nil]
  after_reads_simp
  rfl

theorem v_term : (afterL preI V (Proc.devRef .tc main_v52_2) : FVec Ideal S64x2x4x64x512 .f32) = vTerm (V (Proc.devRef .tc main_arg0)) := by
  simp only [afterL_cons, afterL_nil]
  after_reads_simp
  rfl

theorem li_term : (afterL preI V (Proc.devRef .tc main_v52_3) : FVec Ideal S64x2x4x64 .f32)
    = arrange4 (iTerm (V (Proc.devRef .tc main_arg1)) (V (Proc.devRef .tc main_arg2))) := by
  simp only [afterL_cons, afterL_nil]
  after_reads_simp
  rfl

theorem lf_term : (afterL preI V (Proc.devRef .tc main_v52_4) : FVec Ideal S64x2x4x64 .f32)
    = arrange4 (Host.negf (softplus (Host.negf (fTerm (V (Proc.devRef .tc main_arg1)) (V (Proc.devRef .tc main_arg2)))))) := by
  simp only [afterL_cons, afterL_nil]
  after_reads_simp
  simp -implicitDefEqProofs only [TRef.toBuf, TRef.ofBuf, cast_cast, cast_eq]
  rfl

end Terms

end Cert.ReferenceIdeal.Entry
end
-- ==== Proof.RefEntry.lean ====
module

public import proofs.«01_k».proof.Proof.RefArgs
public import proofs.«01_k».proof.Proof.RefTerms
@[expose] public section
set_option maxRecDepth 16384
noncomputable section
namespace Cert.ReferenceIdeal.Entry
open Cert.ReferenceIdeal Cert.ReferenceIdeal.Gen Cert.ReferenceIdeal.Value Idealize.ShloMosaic Idealize.ShloMosaic.TcCoe Idealize.SL.Sem
open Idealize.ShloMosaic.StableHlo
open Cert.Mlstm

section Terms
variable (P : FVec Ideal S8192x20480 .bf16) (G : FVec Ideal S8192x8 .f32) (Bi : FVec Ideal S2x4 .f32)

theorem qTerm_at (k : Fin 64) (b : Fin 2) (h : Fin 4) (i : Fin 64) (d : Fin 256) : qTerm P (ix5 k b h i d)
    = P (ix2 ⟨b.val * 4096 + (k.val * 64 + i.val), by omega⟩ ⟨h.val * 256 + d.val, by omega⟩) * Ideal.ofBits .f32 0x3D800000#32 := by
  pointwise [qTerm, arrange256]

theorem kTerm_at (k : Fin 64) (b : Fin 2) (h : Fin 4) (i : Fin 64) (d : Fin 256) : kTerm P (ix5 k b h i d)
    = P (ix2 ⟨b.val * 4096 + (k.val * 64 + i.val), by omega⟩ ⟨1024 + (h.val * 256 + d.val), by omega⟩) := by
  pointwise [kTerm, arrange256]
  simp only [Nat.add_assoc]

theorem vTerm_at (k : Fin 64) (b : Fin 2) (h : Fin 4) (i : Fin 64) (d : Fin 512) : vTerm P (ix5 k b h i d)
    = P (ix2 ⟨b.val * 4096 + (k.val * 64 + i.val), by omega⟩ ⟨2048 + (h.val * 512 + d.val), by omega⟩) := by
  pointwise [vTerm]
  simp only [Nat.add_assoc]

theorem arrange4_at (x : FVec Ideal S2x4096x4 .f32) (k : Fin 64) (b : Fin 2) (h : Fin 4) (i : Fin 64) : arrange4 x (ix4 k b h i)
    = x (ix3 b ⟨k.val * 64 + i.val, by omega⟩ h) := by
  pointwise [arrange4]

theorem gateTerm_at (g : FVec Ideal S8192x4 .f32) (bi : FVec Ideal S1x4 .f32) (b : Fin 2) (t : Fin 4096) (h : Fin 4) :
    gateTerm g bi (ix3 b t h)
      = ((capped (Ideal.div (g (ix2 ⟨b.val * 4096 + t.val, by omega⟩ h) + bi (ix2 0 h)) (Ideal.ofBits .f32 0x41700000#32)) : ℝ) : EReal) := by
  rw [← capped_eq]
  pointwise [gateTerm]

theorem softplus_at (x : FVec Ideal S2x4096x4 .f32) (j : S2x4096x4.Idx) (p : ℝ) (hp : x j = ((-p : ℝ) : EReal)) :
    -softplus x j = ((logSig p : ℝ) : EReal) := by
  have hz : zeros j = 0 := by pointwise [zeros]
  have e : softplus x j = if x j - zeros j ≠ x j - zeros j then x j + zeros j
      else max (x j) (zeros j) + Ideal.log1p (Ideal.exp (-(max (x j - zeros j) (-(x j - zeros j))))) := by
    pointwise [softplus]
    rfl
  rw [e, if_neg (not_not.2 rfl), hz, hp, EReal.coe_neg, ← logSig_softplus]

end Terms

variable (V : Valuation τ sig (Elt Ideal))

theorem q_entry (k : Fin 64) (b : Fin 2) (h : Fin 4) (i : Fin 64) (d : Fin 256) :
    @Eq EReal ((afterL preI V (Proc.devRef .tc main_v52_0) : FVec Ideal S64x2x4x64x256 .f32) (ix5 k b h i d))
      ((argsOf V).qRaw b h (64 * k.val + i.val) d * Ideal.ofBits .f32 0x3D800000#32) :=
  (congrFun (q_term V) _).trans ((qTerm_at _ k b h i d).trans (congrArg (· * Ideal.ofBits .f32 0x3D800000#32) (q_read V k b h i d).symm))

theorem k_entry (k : Fin 64) (b : Fin 2) (h : Fin 4) (i : Fin 64) (d : Fin 256) :
    @Eq EReal ((afterL preI V (Proc.devRef .tc main_v52_1) : FVec Ideal S64x2x4x64x256 .f32) (ix5 k b h i d))
      ((argsOf V).kRaw b h (64 * k.val + i.val) d) :=
  (congrFun (k_term V) _).trans ((kTerm_at _ k b h i d).trans (k_read V k b h i d).symm)

theorem v_entry (k : Fin 64) (b : Fin 2) (h : Fin 4) (i : Fin 64) (d : Fin 512) :
    @Eq EReal ((afterL preI V (Proc.devRef .tc main_v52_2) : FVec Ideal S64x2x4x64x512 .f32) (ix5 k b h i d))
      ((argsOf V).vRaw b h (64 * k.val + i.val) d) :=
  (congrFun (v_term V) _).trans ((vTerm_at _ k b h i d).trans (v_read V k b h i d).symm)

theorem iTerm_at (k : Fin 64) (b : Fin 2) (h : Fin 4) (i : Fin 64) :
    iTerm (V (Proc.devRef .tc main_arg1)) (V (Proc.devRef .tc main_arg2)) (ix3 b ⟨k.val * 64 + i.val, by omega⟩ h)
      = (((argsOf V).iGate b h (64 * k.val + i.val) : ℝ) : EReal) := by
  rw [Args.iGate, i_read, bias_read]
  refine (gateTerm_at _ _ b _ h).trans ?_
  generalize V (Proc.devRef .tc main_arg1) = G
  generalize V (Proc.devRef .tc main_arg2) = Bi
  clean_types
  pointwise []

theorem fTerm_at (k : Fin 64) (b : Fin 2) (h : Fin 4) (i : Fin 64) :
    fTerm (V (Proc.devRef .tc main_arg1)) (V (Proc.devRef .tc main_arg2)) (ix3 b ⟨k.val * 64 + i.val, by omega⟩ h)
      = (((argsOf V).fGate b h (64 * k.val + i.val) : ℝ) : EReal) := by
  rw [Args.fGate, f_read, bias_read]
  refine (gateTerm_at _ _ b _ h).trans ?_
  generalize V (Proc.devRef .tc main_arg1) = G
  generalize V (Proc.devRef .tc main_arg2) = Bi
  clean_types
  pointwise []

theorem li_entry (k : Fin 64) (b : Fin 2) (h : Fin 4) (i : Fin 64) :
    @Eq EReal ((afterL preI V (Proc.devRef .tc main_v52_3) : FVec Ideal S64x2x4x64 .f32) (ix4 k b h i))
      (((argsOf V).iGate b h (64 * k.val + i.val) : ℝ) : EReal) :=
  (congrFun (li_term V) _).trans ((arrange4_at _ k b h i).trans (iTerm_at V k b h i))

theorem lf_entry (k : Fin 64) (b : Fin 2) (h : Fin 4) (i : Fin 64) :
    @Eq EReal ((afterL preI V (Proc.devRef .tc main_v52_4) : FVec Ideal S64x2x4x64 .f32) (ix4 k b h i))
      ((logSig ((argsOf V).fGate b h (64 * k.val + i.val)) : ℝ) : EReal) := by
  refine (congrFun (lf_term V) _).trans ((arrange4_at _ k b h i).trans ?_)
  refine softplus_at _ _ _ ?_
  rw [EReal.coe_neg, ← fTerm_at V k b h i]
  rfl

theorem mask_entry (i j : Fin 64) :
    (afterL preI V (Proc.devRef .tc main_v52_5) : IVec S64x64 1) (ix2 i j) = BitVec.ofBool (decide (j.val ≤ i.val)) := by
  simp only [afterL_cons, afterL_nil]
  after_reads_simp
  simp only [TRef.toBuf, TRef.ofBuf, cast_eq, id_eq]
  clean_types
  pointwise []
  revert i j
  decide +kernel

theorem mem_entry (b : Fin 2) (h : Fin 4) (d : Fin 256) (e : Fin 512) :
    @Eq EReal ((afterL preI V (Proc.devRef .tc main_v52_7) : FVec Ideal S2x4x256x512 .f32) (ix4 b h d e))
      (0) := by
  generalize hr : (0 : EReal) = r
  simp only [afterL_cons, afterL_nil]
  after_reads_simp
  simp only [TRef.toBuf, TRef.ofBuf, cast_eq, id_eq]
  clean_types
  pointwise []
  exact hr

theorem nrm_entry (b : Fin 2) (h : Fin 4) (d : Fin 256) :
    @Eq EReal ((afterL preI V (Proc.devRef .tc main_v52_8) : FVec Ideal S2x4x256 .f32) (ix3 b h d))
      (0) := by
  generalize hr : (0 : EReal) = r
  simp only [afterL_cons, afterL_nil]
  after_reads_simp
  simp only [TRef.toBuf, TRef.ofBuf, cast_eq, id_eq]
  clean_types
  pointwise []
  exact hr

theorem stab_entry (b : Fin 2) (h : Fin 4) :
    @Eq EReal ((afterL preI V (Proc.devRef .tc main_v52_9) : FVec Ideal S2x4 .f32) (ix2 b h))
      (0) := by
  generalize hr : (0 : EReal) = r
  simp only [afterL_cons, afterL_nil]
  after_reads_simp
  simp only [TRef.toBuf, TRef.ofBuf, cast_eq, id_eq]
  clean_types
  pointwise []
  exact hr

end Cert.ReferenceIdeal.Entry
end
-- ==== Proof.RefValue.lean ====
module

public import proofs.«01_k».proof.Proof.RefEntry
@[expose] public section
set_option maxRecDepth 16384
noncomputable section
namespace Cert.ReferenceIdeal.Entry
open Cert.ReferenceIdeal Cert.ReferenceIdeal.Gen Cert.ReferenceIdeal.Value Idealize.ShloMosaic Idealize.ShloMosaic.TcCoe Idealize.SL.Sem
open Idealize.ShloMosaic.StableHlo
open Cert.Mlstm

variable {m : (ℓ : Loc nD τ sig) → Buf (Elt Ideal) ℓ} {c : Dev nD}

variable (m c) in
/-- The arguments of device `c`. -/
def args : Args where
  proj r k := (m ((c : Thread nD τ).loc main_arg0) : Vec Ideal S8192x20480 .bf16) (ix2 r k)
  gates r k := (m ((c : Thread nD τ).loc main_arg1) : Vec Ideal S8192x8 .f32) (ix2 r k)
  bias r k := (m ((c : Thread nD τ).loc main_arg2) : Vec Ideal S2x4 .f32) (ix2 r k)
  hn r := (m ((c : Thread nD τ).loc main_arg3) : Vec Ideal S2048 .f32) (ix1 r)

theorem args_launch : argsOf (launchContents m c) = args m c := rfl

/-- The invariant before the first trip. -/
theorem carried_launch (V : Valuation τ sig (Elt Ideal)) (hX : (argsOf V).Finite)
    (hc : afterL preI V (Proc.devRef .tc main_v52_6) = fun _ => BitVec.ofNat 32 0) : Step.Carried (argsOf V) (afterL preI V) 0 where
  ctr := hc
  qs k b h i d := by
    refine (q_entry V k b h i d).trans ?_
    rw [q_coe hX, ofBits_sixteenth, ← EReal.coe_mul]
    congr 1; ring
  ks k b h i d := (k_entry V k b h i d).trans (k_coe hX ..)
  vs k b h i d := (v_entry V k b h i d).trans (v_coe hX ..)
  li := li_entry V
  lf := lf_entry V
  mask := mask_entry V
  mem b h d e := (mem_entry V b h d e).trans (by rw [Stream.C]; simp)
  nrm b h d := (nrm_entry V b h d).trans (by rw [Stream.n]; simp)
  stab b h := (stab_entry V b h).trans (by rw [Stream.m, Stream.B, Stream.A]; simp)
  out _ _ _ _ _ h := absurd h (Nat.not_lt_zero _)

theorem carried_entry (hX : (args m c).Finite) : Step.Carried (args m c) (entryContents preI m c) 0 :=
  carried_launch (launchContents m c) hX (ctr_entry m c)

theorem carried_end (hX : (args m c).Finite) : Step.Carried (args m c) (STEP^[64] (entryContents preI m c)) 64 :=
  Step.carried_iter (carried_entry hX) 64 le_rfl

/-- The layer's output at an index, from the buffers after the loop. -/
theorem out_of {V : Valuation τ sig (Elt Ideal)} (R : Step.Carried (args m c) V 64)
    (h0 : V (Proc.devRef .tc main_arg0) = m ((c.tc : Thread nD τ).loc main_arg0))
    (h3 : V (Proc.devRef .tc main_arg3) = m ((c.tc : Thread nD τ).loc main_arg3)) (b : Fin 2) (t : Fin 4096) (k : Fin 2048) :
    @Eq EReal ((out_main_v80 V : FVec Ideal S2x4096x2048 .bf16) (ix3 b t k)) (outAt (args m c) b t k) := by
  generalize hr : outAt (args m c) b t k = r
  unfold out_main_v80
  clean_types
  pointwise []
  subst hr
  have ht : 64 * (t.val / 64) + t.val % 64 = t.val := by omega
  have hcol : (⟨4096 + k.val, by omega⟩ : Fin 20480) = ⟨4096 + (512 * (k.val / 512) + k.val % 512), by omega⟩ :=
    Fin.ext (by show 4096 + k.val = 4096 + (512 * (k.val / 512) + k.val % 512); omega)
  have ho := fun x => R.out ⟨t.val / 64, by omega⟩ b ⟨k.val / 512, by omega⟩ ⟨t.val % 64, by omega⟩ x (by show t.val / 64 < 64; omega)
  simp only [ht] at ho
  simp only [ho, h0, h3]
  rw [hcol, ← row_eq']
  rfl

theorem up_of {V : Valuation τ sig (Elt Ideal)}
    (h4 : V (Proc.devRef .tc main_arg4) = m ((c.tc : Thread nD τ).loc main_arg4)) (b : Fin 4096) (k : Fin 11008) :
    @Eq EReal ((out_main_v82 V : FVec Ideal S4096x11008 .bf16) (ix2 b k))
      ((m ((c : Thread nD τ).loc main_arg4) : Vec Ideal S1x4096x11008 .f32) (ix3 0 b k)) := by
  unfold out_main_v82
  rw [h4]
  generalize m ((c.tc : Thread nD τ).loc main_arg4) = W
  clean_types
  pointwise []

variable (m) (ρ : Dev nD → PrngReg)

/-- The reference's run: its results, from finite projections, and its arguments unchanged. -/
theorem run_results (hX : ∀ c, (args m c).Finite) : θ_run (defs (F := Ideal)) (onTc (τ := τ) (main (F := Ideal))) ⟨m, fun _ => 0, ρ⟩
    (fun r => ∀ c : Dev nD,
      r.2.mem ((c.tc : Thread nD τ).loc main_v80) = (fun j => outAt (args m c) (j 0) (j 1) (j 2) : Vec Ideal S2x4096x2048 .bf16)
      ∧ r.2.mem ((c.tc : Thread nD τ).loc main_v82) = (fun j => (m ((c : Thread nD τ).loc main_arg4) : Vec Ideal S1x4096x11008 .f32) (ix3 0 (j 0) (j 1)) : Vec Ideal S4096x11008 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1.trans (funext fun j => (congrArg _ (eq_ix3 j)).trans (out_of (carried_end (hX c)) (iter_main_arg0 m c 64) (iter_main_arg3 m c 64) (j 0) (j 1) (j 2))),
      (h c).2.1.trans (funext fun j => (congrArg _ (eq_ix2 j)).trans (up_of (iter_main_arg4 m c 64) (j 0) (j 1))),
      (h c).2.2⟩) (run m ρ)

/-- The reference ends with its arguments unchanged and, having no semaphore, every counter at zero. -/
theorem run_frame : θ_run (defs (F := Ideal)) (onTc (τ := τ) (main (F := Ideal))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, sem_eq_zero_of_no_sems (by decide) r.2⟩) (run m ρ)

end Cert.ReferenceIdeal.Entry
end
-- ==== Proof.Finite.lean ====
module

public import proofs.«01_k».proof.Pre_finite_qkv
public import Idealize.ShloMosaic.Lib.ReduceAll
public import Idealize.ShloMosaic.Lib.Affine
public import Idealize.ShloMosaic.Lib.Pointwise

/-! The precondition, read: each projection the mixer takes as a query, a key or a value is a real number. -/

@[expose] public section
noncomputable section
namespace Cert.Pre_finite_qkv
open Idealize.ShloMosaic

instance facts : Facts where
  slices_S8192x20480_S8192x4096_0_0 := by decide
  bitsLt_bf16_f32 := by decide
  bcast_S_S8192x4096 := by decide
  reducesTo_S8192x4096_S_d0_1 := by decide
  h_S_ := by decide

theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem finite_of (P : FVec Ideal S8192x20480 .bf16) (G : FVec Ideal S8192x8 .f32) (Bi : FVec Ideal S2x4 .f32) (H : FVec Ideal S2048 .f32)
    (W : FVec Ideal S1x4096x11008 .f32) (h : fn P G Bi H W = fun _ => 1#1) (r : Fin 8192) (c : Fin 20480) (hc : c.val < 4096) :
    ∃ x : ℝ, P (ix2 r c) = (x : EReal) := by
  have : Subsingleton S_.Idx := ⟨fun a b => funext fun i => i.elim0⟩
  have e := congrFun h (fun i => i.elim0)
  dsimp only [fn] at e
  have hp := Host.reduce_andi_all _ _ _ _ _ e (ix2 r ⟨c.val, hc⟩)
  refine real_of_abs_lt _ (Eq.trans ?_ hp)
  clear hp e h
  pointwise []
  rfl

end Cert.Pre_finite_qkv
end
-- ==== Proof.Up.lean ====
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Pipeline.ReadBack

/-! The gated up-projection of the feed-forward part: one hidden entry, of the kernel and of the reference. -/

@[expose] public section
set_option maxRecDepth 16384
noncomputable section

namespace Cert.Up
open Idealize.ShloMosaic

/-- One entry of the product of a row and a column. -/
def dot (a b : Fin 4096 → EReal) : EReal := ∑ l, a l * b l

/-- A hidden entry from its row and its two weight columns: `silu` of the gate's product, times the other's. -/
def gated (h g u : Fin 4096 → EReal) : EReal := dot h g * Ideal.div 1 (1 + Ideal.exp (-dot h g)) * dot h u

end Cert.Up

namespace Cert.Kernel2Ideal.Up
open Cert.Kernel2Ideal Cert.Kernel2Ideal.Gen Idealize.ShloMosaic Idealize.ShloMosaic.TcCoe Idealize.SL.Sem Cert.Up

theorem pay_at (v4 v5 : Vec Ideal S4096x256 .bf16) (h : Vec Ideal S256x4096 .bf16) (x : S256x256.Idx) :
    @Eq EReal (k0_pay1 v4 v5 h x) (gated (fun l => h (ix2 (x 0) l)) (fun l => v4 (ix2 l (x 1))) (fun l => v5 (ix2 l (x 1)))) := by
  obtain ⟨r, k, rfl⟩ : ∃ (r k : Fin 256), x = ix2 r k := ⟨x 0, x 1, eq_ix2 x⟩
  unfold gated dot
  pointwise [k0_pay1, Ideal.logistic]

/-- A store's entry, at its place in the block. -/
theorem piece_at (x0 : Vec Ideal S4096x4096 .bf16) (x1 x2 w1 w2 : Vec Ideal S4096x256 .bf16) (h : Vec Ideal S256x4096 .bf16) (o : ℕ)
    (r : Fin 4096) (k : Fin 256) (x : S256x256.Idx) (h0 : r.val = o + (x 0).val) (h1 : k.val = (x 1).val)
    (e1 : ∀ (l : Fin 4096) (b : Fin 256), w1 (ix2 l b) = x1 (ix2 l b)) (e2 : ∀ (l : Fin 4096) (b : Fin 256), w2 (ix2 l b) = x2 (ix2 l b))
    (hh : ∀ (a : Fin 256) (l : Fin 4096) (ha : o + a.val < 4096), h (ix2 a l) = x0 (ix2 ⟨o + a.val, ha⟩ l)) :
    @Eq EReal (k0_pay1 w1 w2 h x) (gated (fun l => x0 (ix2 r l)) (fun l => x1 (ix2 l k)) (fun l => x2 (ix2 l k))) := by
  refine (pay_at w1 w2 h x).trans ?_
  obtain ⟨a, b, rfl⟩ : ∃ (a b : Fin 256), x = ix2 a b := ⟨x 0, x 1, eq_ix2 x⟩
  have ha : o + a.val < 4096 := lt_of_eq_of_lt h0.symm r.isLt
  obtain rfl : r = ⟨o + a.val, ha⟩ := Fin.ext h0
  obtain rfl : k = b := Fin.ext h1
  show gated (fun l => h (ix2 a l)) (fun l => w1 (ix2 l k)) (fun l => w2 (ix2 l k)) = _
  simp only [hh a _ ha, e1, e2]

set_option maxHeartbeats 1000000 in
theorem out_at (x0 : Vec Ideal S4096x4096 .bf16) (x1 x2 : Vec Ideal S4096x256 .bf16) (x3 : Vec Ideal S1x128x4096 .f32) (r : Fin 4096) (k : Fin 256) :
    @Eq EReal (out0_4 x0 x1 x2 x3 (ix2 r k)) (gated (fun l => x0 (ix2 r l)) (fun l => x1 (ix2 l k)) (fun l => x2 (ix2 l k))) := by
  unfold out0_4
  canon_tiles x h
  · exact piece_at x0 x1 x2 _ _ _ 3840 r k x h0 h1 (fun l b => by pointwise []) (fun l b => by pointwise []) (fun a l ha => by pointwise [])
  · exact piece_at x0 x1 x2 _ _ _ 3584 r k x h0 h1 (fun l b => by pointwise []) (fun l b => by pointwise []) (fun a l ha => by pointwise [])
  · exact piece_at x0 x1 x2 _ _ _ 3328 r k x h0 h1 (fun l b => by pointwise []) (fun l b => by pointwise []) (fun a l ha => by pointwise [])
  · exact piece_at x0 x1 x2 _ _ _ 3072 r k x h0 h1 (fun l b => by pointwise []) (fun l b => by pointwise []) (fun a l ha => by pointwise [])
  · exact piece_at x0 x1 x2 _ _ _ 2816 r k x h0 h1 (fun l b => by pointwise []) (fun l b => by pointwise []) (fun a l ha => by pointwise [])
  · exact piece_at x0 x1 x2 _ _ _ 2560 r k x h0 h1 (fun l b => by pointwise []) (fun l b => by pointwise []) (fun a l ha => by pointwise [])
  · exact piece_at x0 x1 x2 _ _ _ 2304 r k x h0 h1 (fun l b => by pointwise []) (fun l b => by pointwise []) (fun a l ha => by pointwise [])
  · exact piece_at x0 x1 x2 _ _ _ 2048 r k x h0 h1 (fun l b => by pointwise []) (fun l b => by pointwise []) (fun a l ha => by pointwise [])
  · exact piece_at x0 x1 x2 _ _ _ 1792 r k x h0 h1 (fun l b => by pointwise []) (fun l b => by pointwise []) (fun a l ha => by pointwise [])
  · exact piece_at x0 x1 x2 _ _ _ 1536 r k x h0 h1 (fun l b => by pointwise []) (fun l b => by pointwise []) (fun a l ha => by pointwise [])
  · exact piece_at x0 x1 x2 _ _ _ 1280 r k x h0 h1 (fun l b => by pointwise []) (fun l b => by pointwise []) (fun a l ha => by pointwise [])
  · exact piece_at x0 x1 x2 _ _ _ 1024 r k x h0 h1 (fun l b => by pointwise []) (fun l b => by pointwise []) (fun a l ha => by pointwise [])
  · exact piece_at x0 x1 x2 _ _ _ 768 r k x h0 h1 (fun l b => by pointwise []) (fun l b => by pointwise []) (fun a l ha => by pointwise [])
  · exact piece_at x0 x1 x2 _ _ _ 512 r k x h0 h1 (fun l b => by pointwise []) (fun l b => by pointwise []) (fun a l ha => by pointwise [])
  · exact piece_at x0 x1 x2 _ _ _ 256 r k x h0 h1 (fun l b => by pointwise []) (fun l b => by pointwise []) (fun a l ha => by pointwise [])
  · exact piece_at x0 x1 x2 _ _ _ 0 r k x (h0.trans (Nat.zero_add _).symm) h1 (fun l b => by pointwise []) (fun l b => by pointwise []) (fun a l ha => by pointwise [])

theorem out5_at (x0 : Vec Ideal S4096x4096 .bf16) (x1 x2 : Vec Ideal S4096x256 .bf16) (x3 : Vec Ideal S1x128x4096 .f32) (r : Fin 128) (k : Fin 4096) :
    @Eq EReal (out0_5 x0 x1 x2 x3 (ix2 r k)) (x3 (ix3 0 r k)) := by
  frame_out
  pointwise [k0_pay2]

variable (m : (ℓ : Loc nD τ sig) → Buf (Elt Ideal) ℓ) (c : Dev nD)

/-- The rows the call reads. -/
def rows : Vec Ideal S8192x4096 .bf16 := m ((c : Thread nD τ).loc main_arg0)

/-- The gate's weight. -/
def gateW : Vec Ideal S4096x11008 .bf16 := m ((c : Thread nD τ).loc main_arg1)

/-- The other weight. -/
def upW : Vec Ideal S4096x11008 .bf16 := m ((c : Thread nD τ).loc main_arg2)

/-- The down-projection's weight, which the call rounds on the side. -/
def downW : Vec Ideal S1x11008x4096 .f32 := m ((c : Thread nD τ).loc main_arg3)

/-- The hidden array. -/
def hidden : Vec Ideal S8192x11008 .bf16 := fun j =>
  gated (fun l => rows m c (ix2 (j 0) l)) (fun l => gateW m c (ix2 l (j 1))) (fun l => upW m c (ix2 l (j 1)))

/-- The down-projection's weight, without its leading axis. -/
def rounded : Vec Ideal S11008x4096 .bf16 := fun j => downW m c (ix3 0 (j 0) (j 1))

theorem idx : ∀ t : Fin grid0.N, win0_0.index t = ![t.val / 43, 0] ∧ win0_1.index t = ![0, t.val % 43] ∧ win0_2.index t = ![0, t.val % 43]
    ∧ win0_3.index t = ![0, t.val, 0] ∧ win0_4.index t = ![t.val / 43, t.val % 43] ∧ win0_5.index t = ![t.val, 0] := by
  decide +kernel

theorem rows_blk (t : Fin cfg0.N) (h : t.val < 86) (r l : Fin 4096) :
    iblk m c 0 t (ix2 r l) = rows m c (ix2 ⟨t.val / 43 * 4096 + r.val, by omega⟩ l) := by
  have hi := idx t
  unfold rows
  blk_ext! [iblk, V, hi]

theorem gate_blk (t : Fin cfg0.N) (h : t.val < 86) (l : Fin 4096) (k : Fin 256) :
    iblk m c 1 t (ix2 l k) = gateW m c (ix2 l ⟨t.val % 43 * 256 + k.val, by omega⟩) := by
  have hi := idx t
  unfold gateW
  blk_ext! [iblk, V, hi]

theorem up_blk (t : Fin cfg0.N) (h : t.val < 86) (l : Fin 4096) (k : Fin 256) :
    iblk m c 2 t (ix2 l k) = upW m c (ix2 l ⟨t.val % 43 * 256 + k.val, by omega⟩) := by
  have hi := idx t
  unfold upW
  blk_ext! [iblk, V, hi]

theorem down_blk (t : Fin cfg0.N) (h : t.val < 86) (r : Fin 128) (k : Fin 4096) :
    iblk m c 3 t (ix3 0 r k) = downW m c (ix3 0 ⟨t.val * 128 + r.val, by omega⟩ k) := by
  have hi := idx t
  unfold downW
  blk_ext! [iblk, V, hi]

theorem final4 : (dats m 0 c).arrAt 4 cfg0.N = hidden m c := by
  refine (dats m 0 c).arrAt_eq_of_covers 4 _ (by decide +kernel) fun t hf y => ?_
  blk_simp
  rw [after0_4]
  have hi := (idx t).2.2.2.2.1
  have ht : t.val < 86 := t.isLt
  obtain ⟨r, k, rfl⟩ : ∃ (r : Fin 4096) (k : Fin 256), y = ix2 r k := ⟨y 0, y 1, eq_ix2 y⟩
  have e0 : (win0_4.blk t).view.emb (ix2 r k) 0 = (⟨t.val / 43 * 4096 + r.val, by omega⟩ : Fin 8192) := Fin.ext (by blk_simp [hi])
  have e1 : (win0_4.blk t).view.emb (ix2 r k) 1 = (⟨t.val % 43 * 256 + k.val, by omega⟩ : Fin 11008) := Fin.ext (by blk_simp [hi])
  refine (out_at _ _ _ _ r k).trans ?_
  simp only [rows_blk m c t ht, gate_blk m c t ht, up_blk m c t ht]
  unfold hidden
  rw [e0, e1]

theorem final5 : (dats m 0 c).arrAt 5 cfg0.N = rounded m c := by
  refine (dats m 0 c).arrAt_eq_of_covers 5 _ (by decide +kernel) fun t hf y => ?_
  blk_simp
  rw [after0_5]
  have hi := (idx t).2.2.2.2.2
  have ht : t.val < 86 := t.isLt
  obtain ⟨r, k, rfl⟩ : ∃ (r : Fin 128) (k : Fin 4096), y = ix2 r k := ⟨y 0, y 1, eq_ix2 y⟩
  have e0 : (win0_5.blk t).view.emb (ix2 r k) 0 = (⟨t.val * 128 + r.val, by omega⟩ : Fin 11008) := Fin.ext (by blk_simp [hi])
  have e1 : (win0_5.blk t).view.emb (ix2 r k) 1 = k := Fin.ext (by blk_simp [hi])
  refine (out5_at _ _ _ _ r k).trans ?_
  rw [down_blk m c t ht]
  unfold rounded
  rw [e0, e1]

variable (ρ : Dev nD → PrngReg)

/-- The kernel's run with its results named. -/
theorem run : θ_run (defs (F := Ideal)) (onTc (τ := τ) (main (F := Ideal))) ⟨m, fun _ => 0, ρ⟩ fun r => ∀ c : Dev nD,
      r.2.mem ((c : Thread nD τ).loc main_v0_0) = hidden m c
      ∧ r.2.mem ((c : Thread nD τ).loc main_v0_1) = rounded m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

end Cert.Kernel2Ideal.Up

namespace Cert.Reference2Ideal.Up
open Cert.Reference2Ideal Cert.Reference2Ideal.Gen Idealize.ShloMosaic Idealize.ShloMosaic.TcCoe Idealize.SL.Sem Cert.Up

theorem term_at (H : FVec Ideal S8192x4096 .bf16) (G U : FVec Ideal S4096x11008 .bf16) (r : Fin 8192) (k : Fin 11008) :
    @Eq EReal ((truncf .bf16 (mulf (mulf (Host.dotGeneral dot_S8192x4096_S4096x11008_S8192x11008_1_0_0_1_n_n none (extf .f32 H bitsLt_bf16_f32) (extf .f32 G bitsLt_bf16_f32)) (Host.divf (broadcastInDim S8192x11008 ![] bcast_S_S8192x11008 (constant S_ .f32 0x3F800000#32)) (addf (broadcastInDim S8192x11008 ![] bcast_S_S8192x11008 (constant S_ .f32 0x3F800000#32)) (Host.exp (Host.negf (Host.dotGeneral dot_S8192x4096_S4096x11008_S8192x11008_1_0_0_1_n_n none (extf .f32 H bitsLt_bf16_f32) (extf .f32 G bitsLt_bf16_f32))))))) (Host.dotGeneral dot_S8192x4096_S4096x11008_S8192x11008_1_0_0_1_n_n none (extf .f32 H bitsLt_bf16_f32) (extf .f32 U bitsLt_bf16_f32))) bitsLt_bf16_f32 : FVec Ideal S8192x11008 .bf16) (ix2 r k))
      (gated (fun l => H (ix2 r l)) (fun l => G (ix2 l k)) (fun l => U (ix2 l k))) := by
  unfold gated dot
  pointwise []

theorem rounded_at (D : FVec Ideal S1x11008x4096 .f32) (r : Fin 11008) (k : Fin 4096) :
    @Eq EReal ((truncf .bf16 (shapeCast _ D shapeCasts_S1x11008x4096_S11008x4096) bitsLt_bf16_f32 : FVec Ideal S11008x4096 .bf16) (ix2 r k)) (D (ix3 0 r k)) := by
  pointwise []

/-- The hidden array, from the arguments. -/
def hidden (m : (ℓ : Loc nD τ sig) → Buf (Elt Ideal) ℓ) (c : Dev nD) : Vec Ideal S8192x11008 .bf16 := fun j => gated
  (fun l => (m ((c.tc : Thread nD τ).loc main_arg0) : Vec Ideal S8192x4096 .bf16) (ix2 (j 0) l))
  (fun l => (m ((c.tc : Thread nD τ).loc main_arg1) : Vec Ideal S4096x11008 .bf16) (ix2 l (j 1)))
  (fun l => (m ((c.tc : Thread nD τ).loc main_arg2) : Vec Ideal S4096x11008 .bf16) (ix2 l (j 1)))

/-- The weight without its leading axis, from the arguments. -/
def rounded (m : (ℓ : Loc nD τ sig) → Buf (Elt Ideal) ℓ) (c : Dev nD) : Vec Ideal S11008x4096 .bf16 := fun j =>
  (m ((c.tc : Thread nD τ).loc main_arg3) : Vec Ideal S1x11008x4096 .f32) (ix3 0 (j 0) (j 1))

/-- The reference's run with its results named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = hidden m c
      ∧ r.2.mem ((c.tc : Thread nD τ).loc main_v9) = rounded m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun j => (congrArg _ (eq_ix2 j)).trans (term_at _ _ _ (j 0) (j 1))),
      (h c).2.1.trans (funext fun j => (congrArg _ (eq_ix2 j)).trans (rounded_at _ (j 0) (j 1))), (h c).2.2⟩)
    (Cert.Reference2Ideal.Value.run m ρ)

end Cert.Reference2Ideal.Up
end
-- ==== Proof.Down.lean ====
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack

/-! The down-projection of the feed-forward part: a contraction summed in two halves, of the kernel and of the reference. -/

@[expose] public section
set_option maxRecDepth 16384
noncomputable section

namespace Cert.Down
open Idealize.ShloMosaic

/-- One entry of the product of two matrices. -/
def prod (H : Fin 8192 → Fin 11008 → EReal) (W : Fin 11008 → Fin 4096 → EReal) (r : Fin 8192) (k : Fin 4096) : EReal :=
  ∑ l, H r l * W l k

/-- The contraction is the sum of its two halves. -/
theorem prod_halves (H : Fin 8192 → Fin 11008 → EReal) (W : Fin 11008 → Fin 4096 → EReal) (r : Fin 8192) (k : Fin 4096) :
    (∑ l : Fin 5504, H r ⟨l.val, by omega⟩ * W ⟨l.val, by omega⟩ k)
      + (∑ l : Fin 5504, H r ⟨5504 + l.val, by omega⟩ * W ⟨5504 + l.val, by omega⟩ k) = prod H W r k :=
  (Fin.sum_univ_add (a := 5504) (b := 5504) fun l => H r l * W l k).symm

end Cert.Down

namespace Cert.Kernel3Ideal.Down
open Cert.Kernel3Ideal Cert.Kernel3Ideal.Gen Idealize.ShloMosaic Idealize.ShloMosaic.TcCoe Idealize.SL.Sem Cert.Down

/-- One entry of the product of two blocks. -/
def part (v0 : Vec Ideal S1024x5504 .bf16) (v1 : Vec Ideal S5504x1024 .bf16) (r k : Fin 1024) : EReal := ∑ l, v0 (ix2 r l) * v1 (ix2 l k)

theorem pay2_at (v0 : Vec Ideal S1024x5504 .bf16) (v1 : Vec Ideal S5504x1024 .bf16) (r k : Fin 1024) :
    @Eq EReal (k0_pay2 v0 v1 (ix2 r k)) (part v0 v1 r k) := by
  unfold part
  pointwise [k0_pay2, k0_pay1]

theorem pay4_at (v0 : Vec Ideal S1024x5504 .bf16) (v1 : Vec Ideal S5504x1024 .bf16) (a : Vec Ideal S1024x1024 .f32) (r k : Fin 1024) :
    @Eq EReal (k0_pay4 v0 v1 a (ix2 r k)) (a (ix2 r k) + part v0 v1 r k) := by
  unfold part
  pointwise [k0_pay4, k0_pay1]

variable (m : (ℓ : Loc nD τ sig) → Buf (Elt Ideal) ℓ) (c : Dev nD)

/-- The hidden rows the call reads. -/
def rows (r : Fin 8192) (l : Fin 11008) : EReal := (m ((c : Thread nD τ).loc main_arg0) : Vec Ideal S8192x11008 .bf16) (ix2 r l)

/-- The weight the call reads. -/
def weight (l : Fin 11008) (k : Fin 4096) : EReal := (m ((c : Thread nD τ).loc main_arg1) : Vec Ideal S11008x4096 .bf16) (ix2 l k)

theorem idx : ∀ t : Fin grid0.N, win0_0.index t = ![t.val / 2 % 8, t.val % 2] ∧ win0_1.index t = ![t.val % 2, t.val / 16]
    ∧ win0_2.index t = ![t.val / 2 % 8, t.val / 16] := by
  decide +kernel

theorem rows_blk (t : Fin cfg0.N) (r : Fin 1024) (l : Fin 5504) (h : t.val < 64) :
    @Eq EReal (iblk m c 0 t (ix2 r l)) (rows m c ⟨t.val / 2 % 8 * 1024 + r.val, by omega⟩ ⟨t.val % 2 * 5504 + l.val, by omega⟩) := by
  have hi := idx t
  unfold rows
  blk_ext! [iblk, V, hi]

theorem weight_blk (t : Fin cfg0.N) (l : Fin 5504) (k : Fin 1024) (h : t.val < 64) :
    @Eq EReal (iblk m c 1 t (ix2 l k)) (weight m c ⟨t.val % 2 * 5504 + l.val, by omega⟩ ⟨t.val / 16 * 1024 + k.val, by omega⟩) := by
  have hi := idx t
  unfold weight
  blk_ext! [iblk, V, hi]

/-- The first half's sum, carried to the second point of a pair. -/
theorem carried (t : Fin cfg0.N) (h0 : t.val % 2 = 0) (r k : Fin 1024) :
    @Eq EReal ((outsAt0 m c t.val t.isLt).2 (ix2 r k)) (part (iblk m c 0 t) (iblk m c 1 t) r k) := by
  rw [outsAt0_A m c t h0 (by omega)]
  frame_out
  exact pay2_at _ _ r k

theorem written (t : Fin cfg0.N) (h1 : t.val % 2 = 1) (r k : Fin 1024) :
    @Eq EReal ((outsAt0 m c t.val t.isLt).1 (ix2 r k)) ((outsAt0 m c (t.val - 1) (by omega)).2 (ix2 r k)
      + part (iblk m c 0 t) (iblk m c 1 t) r k) := by
  rw [outsAt0_B m c t (by omega) h1]
  frame_out
  rw [read_unread_whole]
  exact pay4_at _ _ _ r k

theorem final2 : (dats m 0 c).arrAt 2 cfg0.N = (fun j => prod (rows m c) (weight m c) (j 0) (j 1) : Vec Ideal S8192x4096 .bf16) := by
  refine (dats m 0 c).arrAt_eq_of_covers 2 _ (by decide +kernel) fun t hf y => ?_
  blk_simp
  rw [after0_2]
  have hi := (idx t).2.2
  have ht : t.val < 64 := t.isLt
  have h1 : t.val % 2 = 1 := (flush0_2 t).mp hf
  obtain ⟨r, k, rfl⟩ : ∃ (r k : Fin 1024), y = ix2 r k := ⟨y 0, y 1, eq_ix2 y⟩
  have e0 : (win0_2.blk t).view.emb (ix2 r k) 0 = (⟨t.val / 2 % 8 * 1024 + r.val, by omega⟩ : Fin 8192) := Fin.ext (by blk_simp [hi])
  have e1 : (win0_2.blk t).view.emb (ix2 r k) 1 = (⟨t.val / 16 * 1024 + k.val, by omega⟩ : Fin 4096) := Fin.ext (by blk_simp [hi])
  rw [e0, e1]
  have hs : t.val - 1 < cfg0.N := lt_of_le_of_lt (Nat.sub_le _ _) t.isLt
  refine (written m c t h1 r k).trans ?_
  refine (congrArg (· + _) (carried m c ⟨t.val - 1, hs⟩ (by show (t.val - 1) % 2 = 0; omega) r k)).trans ?_
  unfold part
  simp only [rows_blk m c _ _ _ ht, weight_blk m c _ _ _ ht, rows_blk m c ⟨t.val - 1, hs⟩ _ _ (by show t.val - 1 < 64; omega), weight_blk m c ⟨t.val - 1, hs⟩ _ _ (by show t.val - 1 < 64; omega)]
  rw [← prod_halves]
  have a1 : (t.val - 1) / 2 % 8 = t.val / 2 % 8 := by omega
  have a2 : (t.val - 1) / 16 = t.val / 16 := by omega
  have a3 : (t.val - 1) % 2 = 0 := by omega
  simp only [a1, a2, a3, h1, Nat.zero_mul, Nat.zero_add, Nat.one_mul]

variable (ρ : Dev nD → PrngReg)

/-- The kernel's run with its result named. -/
theorem run : θ_run (defs (F := Ideal)) (onTc (τ := τ) (main (F := Ideal))) ⟨m, fun _ => 0, ρ⟩ fun r => ∀ c : Dev nD,
      r.2.mem ((c : Thread nD τ).loc main_v0) = (fun j => prod (rows m c) (weight m c) (j 0) (j 1) : Vec Ideal S8192x4096 .bf16)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

end Cert.Kernel3Ideal.Down

namespace Cert.Reference3Ideal.Down
open Cert.Reference3Ideal Cert.Reference3Ideal.Gen Idealize.ShloMosaic Idealize.ShloMosaic.TcCoe Idealize.SL.Sem Cert.Down

/-- The reference's result, from its arguments. -/
def result (m : (ℓ : Loc nD τ sig) → Buf (Elt Ideal) ℓ) (c : Dev nD) : Vec Ideal S8192x4096 .bf16 := fun j => prod
  (fun r l => (m ((c.tc : Thread nD τ).loc main_arg0) : Vec Ideal S8192x11008 .bf16) (ix2 r l))
  (fun l k => (m ((c.tc : Thread nD τ).loc main_arg1) : Vec Ideal S11008x4096 .bf16) (ix2 l k)) (j 0) (j 1)

theorem term_at (H : FVec Ideal S8192x11008 .bf16) (W : FVec Ideal S11008x4096 .bf16) (r : Fin 8192) (k : Fin 4096) :
    @Eq EReal ((truncf .bf16 (Host.dotGeneral dot_S8192x11008_S11008x4096_S8192x4096_1_0_0_1_n_n none (extf .f32 H bitsLt_bf16_f32) (extf .f32 W bitsLt_bf16_f32)) bitsLt_bf16_f32 : FVec Ideal S8192x4096 .bf16) (ix2 r k))
      (prod (fun r l => H (ix2 r l)) (fun l k => W (ix2 l k)) r k) := by
  unfold prod
  pointwise []

/-- The reference's run with its result named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun j => (congrArg _ (eq_ix2 j)).trans (term_at _ _ (j 0) (j 1))), (h c).2⟩)
    (Cert.Reference3Ideal.Value.run m ρ)

end Cert.Reference3Ideal.Down
end
-- ==== Proof.Post.lean ====
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Pipeline.ReadBack

/-! The last call: the residual plus the normed output of the feed-forward part, of the kernel and of the reference. -/

@[expose] public section
set_option maxRecDepth 16384
noncomputable section

namespace Cert.Post
open Idealize.ShloMosaic

/-- A row's normed entry, added to the residual. -/
def normAdd (Y : Fin 8192 → Fin 4096 → EReal) (X : Fin 8192 → Fin 4096 → EReal) (W : Fin 4096 → EReal) (r : Fin 8192) (k : Fin 4096) : EReal :=
  X r k + Y r k * Ideal.rsqrt (Ideal.div (∑ x, Y r x * Y r x) (Ideal.ofBits .f32 0x45800000#32) + Ideal.ofBits .f32 0x358637BD#32) * W k

end Cert.Post

namespace Cert.Kernel4Ideal.Post
open Cert.Kernel4Ideal Cert.Kernel4Ideal.Gen Idealize.ShloMosaic Idealize.ShloMosaic.TcCoe Idealize.SL.Sem Cert.Post

theorem out_at (x0 : Vec Ideal S512x4096 .bf16) (x1 : Vec Ideal S512x4096 .f32) (x2 : Vec Ideal S1x4096 .f32) (r : Fin 512) (k : Fin 4096) :
    @Eq EReal (out0_3 x0 x1 x2 (ix2 r k)) (x1 (ix2 r k) + x0 (ix2 r k) * Ideal.rsqrt (Ideal.div (∑ x, x0 (ix2 r x) * x0 (ix2 r x))
      (Ideal.ofBits .f32 0x45800000#32) + Ideal.ofBits .f32 0x358637BD#32) * x2 (ix2 0 k)) := by
  frame_out
  pointwise [k0_pay1]

variable (m : (ℓ : Loc nD τ sig) → Buf (Elt Ideal) ℓ) (c : Dev nD)

/-- The call's result, from its arguments. -/
def result : Vec Ideal S8192x4096 .f32 := fun j => normAdd
  (fun r k => (m ((c : Thread nD τ).loc main_arg0) : Vec Ideal S8192x4096 .bf16) (ix2 r k))
  (fun r k => (m ((c : Thread nD τ).loc main_arg1) : Vec Ideal S8192x4096 .f32) (ix2 r k))
  (fun k => (m ((c : Thread nD τ).loc main_arg2) : Vec Ideal S4096 .f32) (ix1 k)) (j 0) (j 1)

theorem idx : ∀ t : Fin grid0.N, win0_0.index t = ![t.val, 0] ∧ win0_1.index t = ![t.val, 0] ∧ win0_2.index t = ![0, 0] ∧ win0_3.index t = ![t.val, 0] := by
  decide +kernel

theorem y_blk (t : Fin cfg0.N) (r : Fin 512) (k : Fin 4096) (h : t.val < 16) :
    iblk m c 0 t (ix2 r k) = (m ((c : Thread nD τ).loc main_arg0) : Vec Ideal S8192x4096 .bf16) (ix2 ⟨t.val * 512 + r.val, by omega⟩ k) := by
  have hi := idx t
  blk_ext! [iblk, V, hi]

theorem x_blk (t : Fin cfg0.N) (r : Fin 512) (k : Fin 4096) (h : t.val < 16) :
    iblk m c 1 t (ix2 r k) = (m ((c : Thread nD τ).loc main_arg1) : Vec Ideal S8192x4096 .f32) (ix2 ⟨t.val * 512 + r.val, by omega⟩ k) := by
  have hi := idx t
  blk_ext! [iblk, V, hi]

theorem w_blk (t : Fin cfg0.N) (k : Fin 4096) :
    iblk m c 2 t (ix2 0 k) = (m ((c : Thread nD τ).loc main_arg2) : Vec Ideal S4096 .f32) (ix1 k) := by
  have hi := idx t
  blk_ext! [iblk, V, hi]

theorem final3 : (dats m 0 c).arrAt 3 cfg0.N = result m c := by
  refine (dats m 0 c).arrAt_eq_of_covers 3 _ (by decide +kernel) fun t hf y => ?_
  blk_simp
  rw [after0_3]
  have hi := (idx t).2.2.2
  have ht : t.val < 16 := t.isLt
  obtain ⟨r, k, rfl⟩ : ∃ (r : Fin 512) (k : Fin 4096), y = ix2 r k := ⟨y 0, y 1, eq_ix2 y⟩
  have e0 : (win0_3.blk t).view.emb (ix2 r k) 0 = (⟨t.val * 512 + r.val, by omega⟩ : Fin 8192) := Fin.ext (by blk_simp [hi])
  have e1 : (win0_3.blk t).view.emb (ix2 r k) 1 = k := Fin.ext (by blk_simp [hi])
  refine (out_at _ _ _ r k).trans ?_
  simp only [y_blk m c t r _ ht, x_blk m c t r _ ht, w_blk]
  unfold result
  rw [e0, e1]
  rfl

variable (ρ : Dev nD → PrngReg)

/-- The kernel's run with its result named. -/
theorem run : θ_run (defs (F := Ideal)) (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (Value.run_blocks m ρ)

end Cert.Kernel4Ideal.Post

namespace Cert.Reference4Ideal.Post
open Cert.Reference4Ideal Cert.Reference4Ideal.Gen Idealize.ShloMosaic Idealize.ShloMosaic.TcCoe Idealize.SL.Sem Cert.Post

/-- The reference's result, from its arguments. -/
def result (m : (ℓ : Loc nD τ sig) → Buf (Elt Ideal) ℓ) (c : Dev nD) : Vec Ideal S8192x4096 .f32 := fun j => normAdd
  (fun r k => (m ((c.tc : Thread nD τ).loc main_arg0) : Vec Ideal S8192x4096 .bf16) (ix2 r k))
  (fun r k => (m ((c.tc : Thread nD τ).loc main_arg1) : Vec Ideal S8192x4096 .f32) (ix2 r k))
  (fun k => (m ((c.tc : Thread nD τ).loc main_arg2) : Vec Ideal S4096 .f32) (ix1 k)) (j 0) (j 1)

theorem term_at (Y : FVec Ideal S8192x4096 .bf16) (X : FVec Ideal S8192x4096 .f32) (W : FVec Ideal S4096 .f32) (r : Fin 8192) (k : Fin 4096) :
    @Eq EReal (addf X (mulf (mulf (extf .f32 Y bitsLt_bf16_f32) (broadcastInDim S8192x4096 ![0, 1] bcast_S8192x1_S8192x4096_0_1 (Host.rsqrt (addf (Host.divf (broadcastInDim S8192x1 ![0] bcast_S8192_S8192x1_0 (Host.reduceAdd (mulf (extf .f32 Y bitsLt_bf16_f32) (extf .f32 Y bitsLt_bf16_f32)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 W))) (ix2 r k))
      (normAdd (fun r k => Y (ix2 r k)) (fun r k => X (ix2 r k)) (fun k => W (ix1 k)) r k) := by
  unfold normAdd
  pointwise []

/-- The reference's run with its result named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun j => (congrArg _ (eq_ix2 j)).trans (term_at _ _ _ (j 0) (j 1))), (h c).2⟩)
    (Cert.Reference4Ideal.Value.run m ρ)

end Cert.Reference4Ideal.Post
end
-- ==== Proof.Merge.lean ====
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.Pipeline.ReadBack

/-! The branch merge: two gated products added, of the kernel and of the reference. -/

@[expose] public section
set_option maxRecDepth 16384
noncomputable section

namespace Cert.Merge
open Idealize.ShloMosaic

/-- The logistic function as the reference writes it. -/
def gateOf (g : EReal) : EReal := Ideal.div 1 (1 + Ideal.exp (-g))

/-- A merged entry: each branch's product of its row and its weight column, times that branch's gate. -/
def merged (a0 w0 a1 w1 : Fin 2048 → EReal) (g0 g1 : EReal) : EReal := gateOf g0 * (∑ l, a0 l * w0 l) + gateOf g1 * (∑ l, a1 l * w1 l)

end Cert.Merge

namespace Cert.Kernel5Ideal.Merge
open Cert.Kernel5Ideal Cert.Kernel5Ideal.Gen Idealize.ShloMosaic Idealize.ShloMosaic.TcCoe Idealize.SL.Sem Cert.Merge

/-- A block's entry, from the blocks read. -/
def blockAt (x0 x1 : Vec Ideal S1024x2048 .bf16) (x2 x3 : Vec Ideal S1x1x2048x512 .f32) (x4 x5 : Vec Ideal S1024x512 .bf16) (r : Fin 1024) (k : Fin 512) : EReal :=
  merged (fun l => x0 (ix2 r l)) (fun l => x2 (ix4 0 0 l k)) (fun l => x1 (ix2 r l)) (fun l => x3 (ix4 0 0 l k)) (x4 (ix2 r k)) (x5 (ix2 r k))

/-- A store's payload, at its place in the block. -/
theorem piece_at (x0 x1 : Vec Ideal S1024x2048 .bf16) (x2 x3 : Vec Ideal S1x1x2048x512 .f32) (x4 x5 : Vec Ideal S1024x512 .bf16)
    (p : Vec Ideal S256x512 .bf16) (o : ℕ) (r : Fin 1024) (k : Fin 512) (x : S256x512.Idx) (h0 : r.val = o + (x 0).val) (h1 : k.val = (x 1).val)
    (hp : ∀ (a : Fin 256) (b : Fin 512) (ha : o + a.val < 1024), @Eq EReal (p (ix2 a b))
      (Ideal.div 1 (1 + Ideal.exp (-x4 (ix2 ⟨o + a.val, ha⟩ b))) * (∑ l, x0 (ix2 ⟨o + a.val, ha⟩ l) * x2 (ix4 0 0 l b))
        + Ideal.div 1 (1 + Ideal.exp (-x5 (ix2 ⟨o + a.val, ha⟩ b))) * (∑ l, x1 (ix2 ⟨o + a.val, ha⟩ l) * x3 (ix4 0 0 l b)))) :
    @Eq EReal (p x) (blockAt x0 x1 x2 x3 x4 x5 r k) := by
  obtain ⟨a, b, rfl⟩ : ∃ (a : Fin 256) (b : Fin 512), x = ix2 a b := ⟨x 0, x 1, eq_ix2 x⟩
  have ha : o + a.val < 1024 := lt_of_eq_of_lt h0.symm r.isLt
  obtain rfl : r = ⟨o + a.val, ha⟩ := Fin.ext h0
  obtain rfl : k = b := Fin.ext h1
  exact hp a k ha

set_option maxHeartbeats 1000000 in
theorem out_at (x0 x1 : Vec Ideal S1024x2048 .bf16) (x2 x3 : Vec Ideal S1x1x2048x512 .f32) (x4 x5 : Vec Ideal S1024x512 .bf16) (r : Fin 1024) (k : Fin 512) :
    @Eq EReal (out0_6 x0 x1 x2 x3 x4 x5 (ix2 r k)) (blockAt x0 x1 x2 x3 x4 x5 r k) := by
  unfold_out out0_6
  canon_tiles x h
  · exact piece_at _ _ _ _ _ _ _ 768 r k x h0 h1 (fun a b ha => by
      pointwise [k0_pay1, k0_pay2, k0_pay3, k0_pay4, k0_pay5, k0_pay6, k0_pay7, k0_pay8, k0_pay9, k0_pay10, k0_pay11, Ideal.logistic])
  · exact piece_at _ _ _ _ _ _ _ 512 r k x h0 h1 (fun a b ha => by
      pointwise [k0_pay1, k0_pay2, k0_pay3, k0_pay4, k0_pay5, k0_pay6, k0_pay7, k0_pay8, k0_pay9, k0_pay10, k0_pay11, Ideal.logistic])
  · exact piece_at _ _ _ _ _ _ _ 256 r k x h0 h1 (fun a b ha => by
      pointwise [k0_pay1, k0_pay2, k0_pay3, k0_pay4, k0_pay5, k0_pay6, k0_pay7, k0_pay8, k0_pay9, k0_pay10, k0_pay11, Ideal.logistic])
  · exact piece_at _ _ _ _ _ _ _ 0 r k x (h0.trans (Nat.zero_add _).symm) h1 (fun a b ha => by
      pointwise [k0_pay1, k0_pay2, k0_pay3, k0_pay4, k0_pay5, k0_pay6, k0_pay7, k0_pay8, k0_pay9, k0_pay10, k0_pay11, Ideal.logistic])

variable (m : (ℓ : Loc nD τ sig) → Buf (Elt Ideal) ℓ) (c : Dev nD)

/-- The first branch's rows. -/
def rowsA : Vec Ideal S8192x2048 .bf16 := m ((c : Thread nD τ).loc main_arg0)

/-- The second branch's rows. -/
def rowsB : Vec Ideal S8192x2048 .bf16 := m ((c : Thread nD τ).loc main_arg1)

/-- Both branches' weights. -/
def weights : Vec Ideal S1x2x2048x4096 .f32 := m ((c : Thread nD τ).loc main_arg2)

/-- The projections, whose last columns are the gates. -/
def proj : Vec Ideal S8192x20480 .bf16 := m ((c : Thread nD τ).loc main_arg3)

/-- The merged array. -/
def result : Vec Ideal S8192x4096 .bf16 := fun j =>
  merged (fun l => rowsA m c (ix2 (j 0) l)) (fun l => weights m c (ix4 0 0 l (j 1))) (fun l => rowsB m c (ix2 (j 0) l)) (fun l => weights m c (ix4 0 1 l (j 1)))
    (proj m c (ix2 (j 0) ⟨12288 + (j 1).val, Nat.lt_of_lt_of_le (Nat.add_lt_add_left (j 1).isLt _) (by decide)⟩))
    (proj m c (ix2 (j 0) ⟨16384 + (j 1).val, Nat.lt_of_lt_of_le (Nat.add_lt_add_left (j 1).isLt _) (by decide)⟩))

theorem idx : ∀ t : Fin grid0.N, win0_0.index t = ![t.val % 8, 0] ∧ win0_1.index t = ![t.val % 8, 0] ∧ win0_2.index t = ![0, 0, 0, t.val / 8]
    ∧ win0_3.index t = ![0, 1, 0, t.val / 8] ∧ win0_4.index t = ![t.val % 8, 24 + t.val / 8] ∧ win0_5.index t = ![t.val % 8, 32 + t.val / 8]
    ∧ win0_6.index t = ![t.val % 8, t.val / 8] := by
  decide +kernel

theorem a_blk (t : Fin cfg0.N) (h : t.val < 64) (r : Fin 1024) (l : Fin 2048) :
    iblk m c 0 t (ix2 r l) = rowsA m c (ix2 ⟨t.val % 8 * 1024 + r.val, by omega⟩ l) := by
  have hi := idx t
  unfold rowsA
  blk_ext! [iblk, V, hi]

theorem b_blk (t : Fin cfg0.N) (h : t.val < 64) (r : Fin 1024) (l : Fin 2048) :
    iblk m c 1 t (ix2 r l) = rowsB m c (ix2 ⟨t.val % 8 * 1024 + r.val, by omega⟩ l) := by
  have hi := idx t
  unfold rowsB
  blk_ext! [iblk, V, hi]

theorem wa_blk (t : Fin cfg0.N) (h : t.val < 64) (l : Fin 2048) (k : Fin 512) :
    iblk m c 2 t (ix4 0 0 l k) = weights m c (ix4 0 0 l ⟨t.val / 8 * 512 + k.val, by omega⟩) := by
  have hi := idx t
  unfold weights
  blk_ext! [iblk, V, hi]

theorem wb_blk (t : Fin cfg0.N) (h : t.val < 64) (l : Fin 2048) (k : Fin 512) :
    iblk m c 3 t (ix4 0 0 l k) = weights m c (ix4 0 1 l ⟨t.val / 8 * 512 + k.val, by omega⟩) := by
  have hi := idx t
  unfold weights
  blk_ext! [iblk, V, hi]

theorem ga_blk (t : Fin cfg0.N) (h : t.val < 64) (r : Fin 1024) (k : Fin 512) :
    iblk m c 4 t (ix2 r k) = proj m c (ix2 ⟨t.val % 8 * 1024 + r.val, by omega⟩ ⟨12288 + (t.val / 8 * 512 + k.val), by omega⟩) := by
  have hi := idx t
  unfold proj
  blk_ext! [iblk, V, hi]

theorem gb_blk (t : Fin cfg0.N) (h : t.val < 64) (r : Fin 1024) (k : Fin 512) :
    iblk m c 5 t (ix2 r k) = proj m c (ix2 ⟨t.val % 8 * 1024 + r.val, by omega⟩ ⟨16384 + (t.val / 8 * 512 + k.val), by omega⟩) := by
  have hi := idx t
  unfold proj
  blk_ext! [iblk, V, hi]

theorem final6 : (dats m 0 c).arrAt 6 cfg0.N = result m c := by
  refine (dats m 0 c).arrAt_eq_of_covers 6 _ (by decide +kernel) fun t hf y => ?_
  blk_simp
  rw [after0_6]
  have hi := (idx t).2.2.2.2.2.2
  have ht : t.val < 64 := t.isLt
  obtain ⟨r, k, rfl⟩ : ∃ (r : Fin 1024) (k : Fin 512), y = ix2 r k := ⟨y 0, y 1, eq_ix2 y⟩
  have e0 : (win0_6.blk t).view.emb (ix2 r k) 0 = (⟨t.val % 8 * 1024 + r.val, by omega⟩ : Fin 8192) := Fin.ext (by blk_simp [hi])
  have e1 : (win0_6.blk t).view.emb (ix2 r k) 1 = (⟨t.val / 8 * 512 + k.val, by omega⟩ : Fin 4096) := Fin.ext (by blk_simp [hi])
  refine (out_at _ _ _ _ _ _ r k).trans ?_
  unfold blockAt
  simp only [a_blk m c t ht, b_blk m c t ht, wa_blk m c t ht, wb_blk m c t ht, ga_blk m c t ht, gb_blk m c t ht]
  unfold result
  simp only [e0, e1]

variable (ρ : Dev nD → PrngReg)

/-- The kernel's run with its result named. -/
theorem run : θ_run (defs (F := Ideal)) (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final6 m c), (h c).2⟩) (Value.run_blocks m ρ)

end Cert.Kernel5Ideal.Merge

namespace Cert.Reference5Ideal.Merge
open Cert.Reference5Ideal Cert.Reference5Ideal.Gen Idealize.ShloMosaic Idealize.ShloMosaic.TcCoe Idealize.SL.Sem Cert.Merge

/-- An entry of the reference's result, from its arguments. -/
def entry (A B : FVec Ideal S8192x2048 .bf16) (W : FVec Ideal S1x2x2048x4096 .f32) (P : FVec Ideal S8192x20480 .bf16) (r : Fin 8192) (k : Fin 4096) : EReal :=
  merged (fun l => A (ix2 r l)) (fun l => W (ix4 0 0 l k)) (fun l => B (ix2 r l)) (fun l => W (ix4 0 1 l k))
    (P (ix2 r ⟨12288 + k.val, by omega⟩)) (P (ix2 r ⟨16384 + k.val, by omega⟩))

theorem term_at (A B : FVec Ideal S8192x2048 .bf16) (W : FVec Ideal S1x2x2048x4096 .f32) (P : FVec Ideal S8192x20480 .bf16) (r : Fin 8192) (k : Fin 4096) :
    @Eq EReal ((truncf .bf16 (addf (mulf (extractStridedSlice S8192x4096 ![0, 0] (Host.divf (broadcastInDim S8192x8192 ![] bcast_S_S8192x8192 (constant S_ .f32 0x3F800000#32)) (addf (broadcastInDim S8192x8192 ![] bcast_S_S8192x8192 (constant S_ .f32 0x3F800000#32)) (Host.exp (Host.negf (extf .f32 (extractStridedSlice S8192x8192 ![0, 12288] P slices_S8192x20480_S8192x8192_0_12288) bitsLt_bf16_f32))))) slices_S8192x8192_S8192x4096_0_0) (Host.dotGeneral dot_S8192x2048_S2048x4096_S8192x4096_1_0_0_1_n_n none (extf .f32 A bitsLt_bf16_f32) (shapeCast _ (extractStridedSlice S1x1x2048x4096 ![0, 0, 0, 0] W slices_S1x2x2048x4096_S1x1x2048x4096_0_0_0_0) shapeCasts_S1x1x2048x4096_S2048x4096))) (mulf (extractStridedSlice S8192x4096 ![0, 4096] (Host.divf (broadcastInDim S8192x8192 ![] bcast_S_S8192x8192 (constant S_ .f32 0x3F800000#32)) (addf (broadcastInDim S8192x8192 ![] bcast_S_S8192x8192 (constant S_ .f32 0x3F800000#32)) (Host.exp (Host.negf (extf .f32 (extractStridedSlice S8192x8192 ![0, 12288] P slices_S8192x20480_S8192x8192_0_12288) bitsLt_bf16_f32))))) slices_S8192x8192_S8192x4096_0_4096) (Host.dotGeneral dot_S8192x2048_S2048x4096_S8192x4096_1_0_0_1_n_n none (extf .f32 B bitsLt_bf16_f32) (shapeCast _ (extractStridedSlice S1x1x2048x4096 ![0, 1, 0, 0] W slices_S1x2x2048x4096_S1x1x2048x4096_0_1_0_0) shapeCasts_S1x1x2048x4096_S2048x4096)))) bitsLt_bf16_f32 : FVec Ideal S8192x4096 .bf16) (ix2 r k)) (entry A B W P r k) := by
  have hk : (⟨16384 + k.val, by omega⟩ : Fin 20480) = ⟨12288 + (4096 + k.val), by omega⟩ := Fin.ext (by show 16384 + k.val = 12288 + (4096 + k.val); omega)
  unfold entry merged gateOf
  rw [hk]
  pointwise []

/-- The reference's result, from its arguments. -/
def result (m : (ℓ : Loc nD τ sig) → Buf (Elt Ideal) ℓ) (c : Dev nD) : Vec Ideal S8192x4096 .bf16 := fun j => entry
  (m ((c.tc : Thread nD τ).loc main_arg0)) (m ((c.tc : Thread nD τ).loc main_arg1)) (m ((c.tc : Thread nD τ).loc main_arg2)) (m ((c.tc : Thread nD τ).loc main_arg3))
  (j 0) (j 1)

/-- The reference's run with its result named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun j => (congrArg _ (eq_ix2 j)).trans (term_at _ _ _ _ (j 0) (j 1))), (h c).2⟩)
    (Cert.Reference5Ideal.Value.run m ρ)

end Cert.Reference5Ideal.Merge
end
-- ==== Proof.Cross.lean ====
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.ReadBack

/-! Cross attention from the rows and the query weight, of the kernel and of the reference. -/

@[expose] public section
set_option maxRecDepth 16384
noncomputable section

namespace Cert.Cross
open Idealize.ShloMosaic

/-- A query's score against one key: the row times the query weight, times the key, scaled. -/
def score (a : Fin 4096 → EReal) (w : Fin 4096 → Fin 1024 → EReal) (κ : Fin 256 → Fin 1024 → EReal) (j : Fin 256) : EReal :=
  (∑ x, (∑ l, a l * w l x) * κ j x) * Ideal.ofBits .f32 0x3D000000#32

/-- The largest of a query's scores. -/
def top (s : Fin 256 → EReal) : EReal := Finset.fold max (Ideal.ofBits .f32 0xFF800000#32) s Finset.univ

/-- The softmax of the scores. -/
def soft (s : Fin 256 → EReal) (j : Fin 256) : EReal := Ideal.div (Ideal.exp (s j - top s)) (∑ x, Ideal.exp (s x - top s))

/-- An attended entry: the values weighted by the softmax of the scores. -/
def attended (a : Fin 4096 → EReal) (w : Fin 4096 → Fin 1024 → EReal) (κ : Fin 256 → Fin 1024 → EReal) (v : Fin 256 → EReal) : EReal :=
  ∑ j, soft (score a w κ) j * v j

theorem max_top (s : Fin 256 → EReal) : max (Ideal.ofBits .f32 0xFF800000#32) (top s) = top s :=
  max_eq_right ((Finset.le_fold_max _).2 (Or.inl le_rfl))

end Cert.Cross

namespace Cert.Kernel6Ideal.Cross
open Cert.Kernel6Ideal Cert.Kernel6Ideal.Gen Idealize.ShloMosaic Idealize.ShloMosaic.TcCoe Idealize.SL.Sem Cert.Cross

theorem out5_at (x0 : Vec Ideal S1024x4096 .bf16) (x1 : Vec Ideal S4096x1024 .bf16) (x2 x3 : Vec Ideal S256x1024 .bf16) (x4 : Vec Ideal S1x128x4096 .f32) (r k : Fin 1024) :
    @Eq EReal (out0_5 x0 x1 x2 x3 x4 (ix2 r k))
      (attended (fun l => x0 (ix2 r l)) (fun l x => x1 (ix2 l x)) (fun j x => x2 (ix2 j x)) (fun j => x3 (ix2 j k))) := by
  unfold attended soft top score
  frame_out
  pointwise [k0_pay2]

theorem out6_at (x0 : Vec Ideal S1024x4096 .bf16) (x1 : Vec Ideal S4096x1024 .bf16) (x2 x3 : Vec Ideal S256x1024 .bf16) (x4 : Vec Ideal S1x128x4096 .f32) (r : Fin 128) (k : Fin 4096) :
    @Eq EReal (out0_6 x0 x1 x2 x3 x4 (ix2 r k)) (x4 (ix3 0 r k)) := by
  frame_out
  pointwise [k0_pay1]

variable (m : (ℓ : Loc nD τ sig) → Buf (Elt Ideal) ℓ) (c : Dev nD)

/-- The rows the queries come from. -/
def rows : Vec Ideal S8192x4096 .bf16 := m ((c : Thread nD τ).loc main_arg0)

/-- The query weight. -/
def queryW : Vec Ideal S4096x4096 .bf16 := m ((c : Thread nD τ).loc main_arg1)

/-- The keys. -/
def keys : Vec Ideal S512x4096 .bf16 := m ((c : Thread nD τ).loc main_arg2)

/-- The values. -/
def values : Vec Ideal S512x4096 .bf16 := m ((c : Thread nD τ).loc main_arg3)

/-- The output weight, which the call rounds on the side. -/
def outW : Vec Ideal S1x4096x4096 .f32 := m ((c : Thread nD τ).loc main_arg4)

/-- The attended rows: row `r` is of batch `r / 4096`, column `k` of head `k / 1024`. -/
def result : Vec Ideal S8192x4096 .bf16 := fun y =>
  have h0 : (y 0).val < 8192 := (y 0).isLt
  have h1 : (y 1).val < 4096 := (y 1).isLt
  attended (fun l => rows m c (ix2 (y 0) l)) (fun l x => queryW m c (ix2 l ⟨(y 1).val / 1024 * 1024 + x.val, by omega⟩))
    (fun j x => keys m c (ix2 ⟨(y 0).val / 4096 * 256 + j.val, by omega⟩ ⟨(y 1).val / 1024 * 1024 + x.val, by omega⟩))
    (fun j => values m c (ix2 ⟨(y 0).val / 4096 * 256 + j.val, by omega⟩ (y 1)))

/-- The output weight, without its leading axis. -/
def rounded : Vec Ideal S4096x4096 .bf16 := fun y => outW m c (ix3 0 (y 0) (y 1))

theorem idx : ∀ t : Fin grid0.N, win0_0.index t = ![t.val / 4, 0] ∧ win0_1.index t = ![0, t.val % 4] ∧ win0_2.index t = ![t.val / 16, t.val % 4]
    ∧ win0_3.index t = ![t.val / 16, t.val % 4] ∧ win0_4.index t = ![0, t.val, 0] ∧ win0_5.index t = ![t.val / 4, t.val % 4]
    ∧ win0_6.index t = ![t.val, 0] := by
  decide +kernel

theorem rows_blk (t : Fin cfg0.N) (h : t.val < 32) (r : Fin 1024) (l : Fin 4096) :
    iblk m c 0 t (ix2 r l) = rows m c (ix2 ⟨t.val / 4 * 1024 + r.val, by omega⟩ l) := by
  have hi := idx t
  unfold rows
  blk_ext! [iblk, V, hi]

theorem query_blk (t : Fin cfg0.N) (h : t.val < 32) (l : Fin 4096) (x : Fin 1024) :
    iblk m c 1 t (ix2 l x) = queryW m c (ix2 l ⟨t.val % 4 * 1024 + x.val, by omega⟩) := by
  have hi := idx t
  unfold queryW
  blk_ext! [iblk, V, hi]

theorem keys_blk (t : Fin cfg0.N) (h : t.val < 32) (j : Fin 256) (x : Fin 1024) :
    iblk m c 2 t (ix2 j x) = keys m c (ix2 ⟨t.val / 16 * 256 + j.val, by omega⟩ ⟨t.val % 4 * 1024 + x.val, by omega⟩) := by
  have hi := idx t
  unfold keys
  blk_ext! [iblk, V, hi]

theorem values_blk (t : Fin cfg0.N) (h : t.val < 32) (j : Fin 256) (x : Fin 1024) :
    iblk m c 3 t (ix2 j x) = values m c (ix2 ⟨t.val / 16 * 256 + j.val, by omega⟩ ⟨t.val % 4 * 1024 + x.val, by omega⟩) := by
  have hi := idx t
  unfold values
  blk_ext! [iblk, V, hi]

theorem outW_blk (t : Fin cfg0.N) (h : t.val < 32) (r : Fin 128) (k : Fin 4096) :
    iblk m c 4 t (ix3 0 r k) = outW m c (ix3 0 ⟨t.val * 128 + r.val, by omega⟩ k) := by
  have hi := idx t
  unfold outW
  blk_ext! [iblk, V, hi]

theorem final5 : (dats m 0 c).arrAt 5 cfg0.N = result m c := by
  refine (dats m 0 c).arrAt_eq_of_covers 5 _ (by decide +kernel) fun t hf y => ?_
  blk_simp
  rw [after0_5]
  have hi := (idx t).2.2.2.2.2.1
  have ht : t.val < 32 := t.isLt
  obtain ⟨r, k, rfl⟩ : ∃ (r : Fin 1024) (k : Fin 1024), y = ix2 r k := ⟨y 0, y 1, eq_ix2 y⟩
  have e0 : (win0_5.blk t).view.emb (ix2 r k) 0 = (⟨t.val / 4 * 1024 + r.val, by omega⟩ : Fin 8192) := Fin.ext (by blk_simp [hi])
  have e1 : (win0_5.blk t).view.emb (ix2 r k) 1 = (⟨t.val % 4 * 1024 + k.val, by omega⟩ : Fin 4096) := Fin.ext (by blk_simp [hi])
  have hr : (t.val / 4 * 1024 + r.val) / 4096 = t.val / 16 := by omega
  have hk : (t.val % 4 * 1024 + k.val) / 1024 = t.val % 4 := by omega
  refine (out5_at _ _ _ _ _ r k).trans ?_
  simp only [rows_blk m c t ht, query_blk m c t ht, keys_blk m c t ht, values_blk m c t ht]
  unfold result
  simp only [e0, e1, hr, hk]

theorem final6 : (dats m 0 c).arrAt 6 cfg0.N = rounded m c := by
  refine (dats m 0 c).arrAt_eq_of_covers 6 _ (by decide +kernel) fun t hf y => ?_
  blk_simp
  rw [after0_6]
  have hi := (idx t).2.2.2.2.2.2
  have ht : t.val < 32 := t.isLt
  obtain ⟨r, k, rfl⟩ : ∃ (r : Fin 128) (k : Fin 4096), y = ix2 r k := ⟨y 0, y 1, eq_ix2 y⟩
  have e0 : (win0_6.blk t).view.emb (ix2 r k) 0 = (⟨t.val * 128 + r.val, by omega⟩ : Fin 4096) := Fin.ext (by blk_simp [hi])
  have e1 : (win0_6.blk t).view.emb (ix2 r k) 1 = k := Fin.ext (by blk_simp [hi])
  refine (out6_at _ _ _ _ _ r k).trans ?_
  rw [outW_blk m c t ht]
  unfold rounded
  rw [e0, e1]

variable (ρ : Dev nD → PrngReg)

/-- The kernel's run with its results named. -/
theorem run : θ_run (defs (F := Ideal)) (onTc (τ := τ) (main (F := Ideal))) ⟨m, fun _ => 0, ρ⟩ fun r => ∀ c : Dev nD,
      r.2.mem ((c : Thread nD τ).loc main_v0_0) = result m c
      ∧ r.2.mem ((c : Thread nD τ).loc main_v0_1) = rounded m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2⟩) (Value.run_blocks m ρ)

end Cert.Kernel6Ideal.Cross

namespace Cert.Reference6Ideal.Cross
open Cert.Reference6Ideal Cert.Reference6Ideal.Gen Idealize.ShloMosaic Idealize.ShloMosaic.TcCoe Idealize.SL.Sem Cert.Cross

/-- The scores of every query against every key of its batch and head. -/
def scores (H : FVec Ideal S8192x4096 .bf16) (W : FVec Ideal S4096x4096 .bf16) (K : FVec Ideal S512x4096 .bf16) : FVec Ideal S2x4x4096x256 .f32 :=
  (mulf (Host.dotGeneral dot_S2x4096x4x1024_S2x256x4x1024_S2x4x4096x256_3_3_1_1_02_02 none (shapeCast _ (Host.dotGeneral dot_S8192x4096_S4096x4096_S8192x4096_1_0_0_1_n_n none (extf .f32 H bitsLt_bf16_f32) (extf .f32 W bitsLt_bf16_f32)) shapeCasts_S8192x4096_S2x4096x4x1024) (shapeCast _ (extf .f32 K bitsLt_bf16_f32) shapeCasts_S512x4096_S2x256x4x1024)) (broadcastInDim S2x4x4096x256 ![] bcast_S_S2x4x4096x256 (constant S_ .f32 0x3D000000#32)))

/-- Every query's largest score. -/
def tops (S : FVec Ideal S2x4x4096x256 .f32) : FVec Ideal S2x4x4096 .f32 := (Host.reduce FloatOps.maximumf S (constant S_ .f32 0xFF800000#32) reducesTo_S2x4x4096x256_S2x4x4096_d3 h_S_)

/-- The exponentials of the scores less their largest. -/
def exps (S : FVec Ideal S2x4x4096x256 .f32) (M : FVec Ideal S2x4x4096 .f32) : FVec Ideal S2x4x4096x256 .f32 :=
  (Host.exp (subf S (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) M)))))

/-- The exponentials over their sum. -/
def probs (E : FVec Ideal S2x4x4096x256 .f32) : FVec Ideal S2x4x4096x256 .f32 :=
  (Host.divf E (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd E (constant S_ .f32 0x00000000#32) reducesTo_S2x4x4096x256_S2x4x4096_d3 h_S_))))

/-- The weighted values, heads side by side. -/
def outs (V : FVec Ideal S512x4096 .bf16) (P : FVec Ideal S2x4x4096x256 .f32) : FVec Ideal S8192x4096 .bf16 :=
  truncf .bf16 (shapeCast _ (transpose S2x4096x4x1024 [0, 3, 1, 2] (Host.dotGeneral dot_S2x256x4x1024_S2x4x4096x256_S2x4x1024x4096_1_3_3_2_02_01 none (shapeCast _ (extf .f32 V bitsLt_bf16_f32) shapeCasts_S512x4096_S2x256x4x1024) P) transposes_S2x4x1024x4096_S2x4096x4x1024_0_3_1_2) shapeCasts_S2x4096x4x1024_S8192x4096) bitsLt_bf16_f32

theorem scores_at (H : FVec Ideal S8192x4096 .bf16) (W : FVec Ideal S4096x4096 .bf16) (K : FVec Ideal S512x4096 .bf16) (b : Fin 2) (h : Fin 4) (i : Fin 4096) (j : Fin 256) :
    @Eq EReal (scores H W K (ix4 b h i j)) (score (fun l => H (ix2 ⟨b.val * 4096 + i.val, by omega⟩ l)) (fun l x => W (ix2 l ⟨h.val * 1024 + x.val, by omega⟩))
      (fun j x => K (ix2 ⟨b.val * 256 + j.val, by omega⟩ ⟨h.val * 1024 + x.val, by omega⟩)) j) := by
  unfold scores score
  pointwise []

theorem tops_at (S : FVec Ideal S2x4x4096x256 .f32) (b : Fin 2) (h : Fin 4) (i : Fin 4096) :
    @Eq EReal (tops S (ix3 b h i)) (top fun j => S (ix4 b h i j)) := by
  unfold tops top
  simp only [pointwise]

theorem exps_at (S : FVec Ideal S2x4x4096x256 .f32) (M : FVec Ideal S2x4x4096 .f32) (b : Fin 2) (h : Fin 4) (i : Fin 4096) (j : Fin 256) :
    @Eq EReal (exps S M (ix4 b h i j)) (Ideal.exp (S (ix4 b h i j) - max (Ideal.ofBits .f32 0xFF800000#32) (M (ix3 b h i)))) := by
  unfold exps
  pointwise []

theorem probs_at (E : FVec Ideal S2x4x4096x256 .f32) (b : Fin 2) (h : Fin 4) (i : Fin 4096) (j : Fin 256) :
    @Eq EReal (probs E (ix4 b h i j)) (Ideal.div (E (ix4 b h i j)) (∑ x, E (ix4 b h i x))) := by
  unfold probs
  pointwise []

theorem outs_at (V : FVec Ideal S512x4096 .bf16) (P : FVec Ideal S2x4x4096x256 .f32) (r : Fin 8192) (k : Fin 4096) :
    @Eq EReal (outs V P (ix2 r k)) (∑ x : Fin 256, @HMul.hMul EReal EReal EReal instHMul (V (ix2 ⟨r.val / 4096 * 256 + x.val, by omega⟩ k))
      (P (ix4 ⟨r.val / 4096, by omega⟩ ⟨k.val / 1024, by omega⟩ ⟨r.val % 4096, by omega⟩ x))) := by
  unfold outs
  pointwise []

/-- The softmax of the scores, at an index. -/
theorem soft_at (S : FVec Ideal S2x4x4096x256 .f32) (b : Fin 2) (h : Fin 4) (i : Fin 4096) (j : Fin 256) :
    @Eq EReal (probs (exps S (tops S)) (ix4 b h i j)) (soft (fun j => S (ix4 b h i j)) j) := by
  have e : ∀ j, @Eq EReal (exps S (tops S) (ix4 b h i j)) (Ideal.exp (S (ix4 b h i j) - top fun j => S (ix4 b h i j))) := fun j => by
    refine (exps_at S _ b h i j).trans ?_
    rw [tops_at, max_top]
  refine (probs_at _ b h i j).trans ?_
  unfold soft
  simp only [e]

/-- An entry of the reference's first result, from its arguments. -/
def entry (H : FVec Ideal S8192x4096 .bf16) (W : FVec Ideal S4096x4096 .bf16) (K V : FVec Ideal S512x4096 .bf16) (r : Fin 8192) (k : Fin 4096) : EReal :=
  attended (fun l => H (ix2 r l)) (fun l x => W (ix2 l ⟨k.val / 1024 * 1024 + x.val, by omega⟩))
    (fun j x => K (ix2 ⟨r.val / 4096 * 256 + j.val, by omega⟩ ⟨k.val / 1024 * 1024 + x.val, by omega⟩))
    (fun j => V (ix2 ⟨r.val / 4096 * 256 + j.val, by omega⟩ k))

theorem term_at (H : FVec Ideal S8192x4096 .bf16) (W : FVec Ideal S4096x4096 .bf16) (K V : FVec Ideal S512x4096 .bf16) (r : Fin 8192) (k : Fin 4096) :
    @Eq EReal (outs V (probs (exps (scores H W K) (tops (scores H W K)))) (ix2 r k)) (entry H W K V r k) := by
  have hr : (⟨r.val / 4096 * 4096 + r.val % 4096, by omega⟩ : Fin 8192) = r := Fin.ext (by show r.val / 4096 * 4096 + r.val % 4096 = r.val; omega)
  refine (outs_at V _ r k).trans ?_
  unfold entry attended
  refine Finset.sum_congr rfl fun x _ => ?_
  rw [mul_comm]
  refine congrArg (· * _) ((soft_at _ _ _ _ x).trans (congrArg (soft · x) (funext fun j => ?_)))
  refine (scores_at H W K _ _ _ j).trans ?_
  simp only [hr]

theorem rounded_at (D : FVec Ideal S1x4096x4096 .f32) (r k : Fin 4096) :
    @Eq EReal ((truncf .bf16 (shapeCast _ D shapeCasts_S1x4096x4096_S4096x4096) bitsLt_bf16_f32 : FVec Ideal S4096x4096 .bf16) (ix2 r k)) (D (ix3 0 r k)) := by
  pointwise []

/-- The reference's first result, from its arguments. -/
def result (m : (ℓ : Loc nD τ sig) → Buf (Elt Ideal) ℓ) (c : Dev nD) : Vec Ideal S8192x4096 .bf16 := fun y => entry
  (m ((c.tc : Thread nD τ).loc main_arg0)) (m ((c.tc : Thread nD τ).loc main_arg1)) (m ((c.tc : Thread nD τ).loc main_arg2)) (m ((c.tc : Thread nD τ).loc main_arg3))
  (y 0) (y 1)

/-- The weight without its leading axis, from the arguments. -/
def rounded (m : (ℓ : Loc nD τ sig) → Buf (Elt Ideal) ℓ) (c : Dev nD) : Vec Ideal S4096x4096 .bf16 := fun y =>
  (m ((c.tc : Thread nD τ).loc main_arg4) : Vec Ideal S1x4096x4096 .f32) (ix3 0 (y 0) (y 1))

/-- The reference's run with its results named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = result m c
      ∧ r.2.mem ((c.tc : Thread nD τ).loc main_v27) = rounded m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (funext fun j => (congrArg _ (eq_ix2 j)).trans (term_at _ _ _ _ (j 0) (j 1))),
      (h c).2.1.trans (funext fun j => (congrArg _ (eq_ix2 j)).trans (rounded_at _ (j 0) (j 1))), (h c).2.2⟩)
    (Cert.Reference6Ideal.Value.run m ρ)

end Cert.Reference6Ideal.Cross
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.KValue
public import proofs.«01_k».proof.Proof.RefValue
public import proofs.«01_k».proof.Proof.Finite
public import proofs.«01_k».proof.Proof.Up
public import proofs.«01_k».proof.Proof.Down
public import proofs.«01_k».proof.Proof.Post
public import proofs.«01_k».proof.Proof.Merge
public import proofs.«01_k».proof.Proof.Cross
public import Idealize.ShloMosaic.Adequacy
public import Idealize.ShloMosaic.Init

@[expose] public section

noncomputable section

namespace Cert.Proof

open Idealize.ShloMosaic Idealize.SL.Sem

/-- The kernel's arguments are finite where the precondition holds. -/
theorem finite_args {m : (ℓ : Loc Cert.KernelIdeal.nD Cert.KernelIdeal.τ Cert.KernelIdeal.sig) → Buf (Elt Ideal) ℓ}
    (h : Cert.Pre_KernelIdeal_finite_qkv m) (c : Dev Cert.KernelIdeal.nD) : (Cert.KernelIdeal.KBlocks.args m c).Finite :=
  fun r k hk => Cert.Pre_finite_qkv.finite_of _ _ _ _ _ (h c) r k hk

/-- Equal results of the mixer's call and of the sequential recurrence, at the ideal instance. -/
theorem mixer : Cert.algebraic_KernelIdeal_ReferenceIdeal_pre_finite_qkv := by
  intro m g m' g' hpre hagree
  have hX := finite_args hpre
  have hargs (c : Dev Cert.KernelIdeal.nD) : Cert.ReferenceIdeal.Entry.args m' c = Cert.KernelIdeal.KBlocks.args m c := by
    obtain ⟨h0, h1, h2, h3, -⟩ := hagree c
    unfold Cert.ReferenceIdeal.Entry.args Cert.KernelIdeal.KBlocks.args
    congr 1
    · exact funext fun r => funext fun k => congrFun h0 _
    · exact funext fun r => funext fun k => congrFun h1 _
    · exact funext fun r => funext fun k => congrFun h2 _
    · exact funext fun r => congrFun h3 _
  refine ⟨_, _, Cert.KernelIdeal.KValue.run m g hX, ?_⟩
  refine (θ_run _ _ _).mono (fun r h c => ?_) (Cert.ReferenceIdeal.Entry.run_results m' g' (fun c => hargs c ▸ hX c))
  obtain ⟨e0, e1, ea⟩ := h c
  refine ⟨e0.trans ?_, e1.trans ?_, ea⟩
  · rw [hargs c]
  · exact funext fun j => congrFun (hagree c).2.2.2.2 _

/-- Equal hidden entries of the gated up-projection, and an equal rounded weight. -/
theorem up : Cert.algebraic_Kernel2Ideal_Reference2Ideal := by
  intro m g m' g' _ hagree
  refine ⟨_, _, Cert.Kernel2Ideal.Up.run m g, ?_⟩
  refine (θ_run _ _ _).mono (fun r h c => ?_) (Cert.Reference2Ideal.Up.run m' g')
  obtain ⟨e0, e1, ea⟩ := h c
  obtain ⟨h0, h1, h2, h3⟩ := hagree c
  refine ⟨e0.trans ?_, e1.trans ?_, ea⟩
  · unfold Cert.Reference2Ideal.Up.hidden
    rw [h0, h1, h2]
    rfl
  · unfold Cert.Reference2Ideal.Up.rounded
    rw [h3]
    rfl

/-- Equal products of the down-projection. -/
theorem down : Cert.algebraic_Kernel3Ideal_Reference3Ideal := by
  intro m g m' g' _ hagree
  refine ⟨_, Cert.Kernel3Ideal.Down.run m g, ?_⟩
  refine (θ_run _ _ _).mono (fun r h c => ?_) (Cert.Reference3Ideal.Down.run m' g')
  obtain ⟨e0, ea⟩ := h c
  obtain ⟨h0, h1⟩ := hagree c
  refine ⟨e0.trans ?_, ea⟩
  unfold Cert.Reference3Ideal.Down.result
  rw [h0, h1]
  rfl

/-- Equal sums of the residual and the normed output. -/
theorem post : Cert.algebraic_Kernel4Ideal_Reference4Ideal := by
  intro m g m' g' _ hagree
  refine ⟨_, Cert.Kernel4Ideal.Post.run m g, ?_⟩
  refine (θ_run _ _ _).mono (fun r h c => ?_) (Cert.Reference4Ideal.Post.run m' g')
  obtain ⟨e0, ea⟩ := h c
  obtain ⟨h0, h1, h2⟩ := hagree c
  refine ⟨e0.trans ?_, ea⟩
  unfold Cert.Reference4Ideal.Post.result
  rw [h0, h1, h2]
  rfl

/-- Equal merged branches. -/
theorem merge : Cert.algebraic_Kernel5Ideal_Reference5Ideal := by
  intro m g m' g' _ hagree
  refine ⟨_, Cert.Kernel5Ideal.Merge.run m g, ?_⟩
  refine (θ_run _ _ _).mono (fun r h c => ?_) (Cert.Reference5Ideal.Merge.run m' g')
  obtain ⟨e0, ea⟩ := h c
  obtain ⟨h0, h1, h2, h3⟩ := hagree c
  refine ⟨e0.trans ?_, ea⟩
  unfold Cert.Reference5Ideal.Merge.result
  rw [h0, h1, h2, h3]
  rfl

/-- Equal attended rows, and the output weight rounded on the side. -/
theorem cross : Cert.algebraic_Kernel6Ideal_Reference6Ideal := by
  intro m g m' g' _ hagree
  refine ⟨_, _, Cert.Kernel6Ideal.Cross.run m g, ?_⟩
  refine (θ_run _ _ _).mono (fun r h c => ?_) (Cert.Reference6Ideal.Cross.run m' g')
  obtain ⟨e0, e1, ea⟩ := h c
  obtain ⟨h0, h1, h2, h3, h4⟩ := hagree c
  refine ⟨e0.trans ?_, e1.trans ?_, ea⟩
  · unfold Cert.Reference6Ideal.Cross.result
    rw [h0, h1, h2, h3]
    rfl
  · unfold Cert.Reference6Ideal.Cross.rounded
    rw [h4]
    rfl

theorem up_frame : Cert.quiescent_Reference2Ideal := fun m g _ =>
  (θ_run _ _ _).mono (fun r h => ⟨fun c => (h c).2.2, sem_eq_zero_of_no_sems (by decide) r.2⟩) (Cert.Reference2Ideal.Up.run m g)

theorem down_frame : Cert.quiescent_Reference3Ideal := fun m g _ =>
  (θ_run _ _ _).mono (fun r h => ⟨fun c => (h c).2, sem_eq_zero_of_no_sems (by decide) r.2⟩) (Cert.Reference3Ideal.Down.run m g)

theorem post_frame : Cert.quiescent_Reference4Ideal := fun m g _ =>
  (θ_run _ _ _).mono (fun r h => ⟨fun c => (h c).2, sem_eq_zero_of_no_sems (by decide) r.2⟩) (Cert.Reference4Ideal.Post.run m g)

theorem merge_frame : Cert.quiescent_Reference5Ideal := fun m g _ =>
  (θ_run _ _ _).mono (fun r h => ⟨fun c => (h c).2, sem_eq_zero_of_no_sems (by decide) r.2⟩) (Cert.Reference5Ideal.Merge.run m g)

theorem cross_frame : Cert.quiescent_Reference6Ideal := fun m g _ =>
  (θ_run _ _ _).mono (fun r h => ⟨fun c => (h c).2.2, sem_eq_zero_of_no_sems (by decide) r.2⟩) (Cert.Reference6Ideal.Cross.run m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite_qkv.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Entry.run_frame m ρ, fun m ρ _ => Cert.ReferenceIdeal.Entry.run_frame m ρ,
    fun m ρ _ => Cert.Kernel2.Gen.frame m ρ, fun m ρ _ => Cert.Kernel2Ideal.Gen.frame m ρ, up_frame,
    fun m ρ _ => Cert.Kernel3.Gen.frame m ρ, fun m ρ _ => Cert.Kernel3Ideal.Gen.frame m ρ, down_frame,
    fun m ρ _ => Cert.Kernel4.Gen.frame m ρ, fun m ρ _ => Cert.Kernel4Ideal.Gen.frame m ρ, post_frame,
    fun m ρ _ => Cert.Kernel5.Gen.frame m ρ, fun m ρ _ => Cert.Kernel5Ideal.Gen.frame m ρ, merge_frame,
    fun m ρ _ => Cert.Kernel6.Gen.frame m ρ, fun m ρ _ => Cert.Kernel6Ideal.Gen.frame m ρ, cross_frame,
    trivial, mixer, trivial, up, trivial, down, trivial, post, trivial, merge, trivial, cross⟩

end Cert.Proof

end
